-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_points_finite [hPre_points_finite : Cert.Pre_points_finite.Facts] (m : (ℓ : Loc Cert.KernelIdeal.nD Cert.KernelIdeal.τ Cert.KernelIdeal.sig) → Buf (Elt Ideal) ℓ) : Prop :=
  ∀ c : Dev Cert.KernelIdeal.nD,
    (Cert.Pre_points_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_points_finite [hPre_points_finite : Cert.Pre_points_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_points_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_points_finite [hKernelIdeal : Cert.KernelIdeal.Facts] [hPre_points_finite : Cert.Pre_points_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_points_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_points_finite [hReferenceIdeal : Cert.ReferenceIdeal.Facts] [hPre_points_finite : Cert.Pre_points_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_points_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "log_norm" .f32 0xC66B3F8E#32 (((-8192) * (Real.log (13176795 / 2097152)) : ℝ) : EReal)

def algebraic_KernelIdeal_ReferenceIdeal_pre_points_finite [hKernelIdeal : Cert.KernelIdeal.Facts] [hReferenceIdeal : Cert.ReferenceIdeal.Facts] [hPre_points_finite : Cert.Pre_points_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_points_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_points_finite : Cert.Pre_points_finite.Facts),
    quiescent_Kernel (hKernel := hKernel)
    ∧ quiescent_KernelIdeal (hKernelIdeal := hKernelIdeal)
    ∧ quiescent_KernelIdeal_pre_points_finite (hKernelIdeal := hKernelIdeal) (hPre_points_finite := hPre_points_finite)
    ∧ quiescent_ReferenceIdeal (hReferenceIdeal := hReferenceIdeal)
    ∧ quiescent_ReferenceIdeal_pre_points_finite (hReferenceIdeal := hReferenceIdeal) (hPre_points_finite := hPre_points_finite)
    ∧ preserves_Kernel_KernelIdeal
    ∧ algebraic_KernelIdeal_ReferenceIdeal_pre_points_finite (hKernelIdeal := hKernelIdeal) (hReferenceIdeal := hReferenceIdeal) (hPre_points_finite := hPre_points_finite)
-- ==== Pre_points_finite.lean ====
abbrev S16384x64 : Shape := ⟨2, ![16384, 64]⟩
abbrev S16x64 : Shape := ⟨2, ![16, 64]⟩
abbrev S16x1x1 : Shape := ⟨3, ![16, 1, 1]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_

variable [Facts]

def fn {F : FTy → Type} [FloatOps F] (main_arg0 : FVec F S16384x64 .f32) (main_arg1 : FVec F S16x64 .f32) (main_arg2 : FVec F S16x64 .f32) (main_arg3 : FVec F S16x1x1 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16x64 .f32 := Host.absf main_arg1
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S16x64 .f32 := Host.absf main_arg2
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  main_v13
-- ==== Kernel.lean ====
abbrev S16384x64 : Shape := ⟨2, ![16384, 64]⟩
abbrev S16x64 : Shape := ⟨2, ![16, 64]⟩
abbrev S16x1x1 : Shape := ⟨3, ![16, 1, 1]⟩
abbrev S1x16 : Shape := ⟨2, ![1, 16]⟩
abbrev S1x64 : Shape := ⟨2, ![1, 64]⟩
abbrev S16 : Shape := ⟨1, ![16]⟩
abbrev S1 : Shape := ⟨1, ![1]⟩
abbrev S1x1 : Shape := ⟨2, ![1, 1]⟩
abbrev S16x1 : Shape := ⟨2, ![16, 1]⟩
abbrev S64 : Shape := ⟨1, ![64]⟩
abbrev S1048576 : Shape := ⟨1, ![1048576]⟩
abbrev S32768 : Shape := ⟨1, ![32768]⟩
abbrev S_ : Shape := ⟨0, ![]⟩

abbrev nBuf : Table → Nat
  | .hbm => 12
  | .local .tc .vmem => 7
  | .local .scVector .vmem => 6
  | _ => 0

abbrev bufTy : (tb : Table) → Fin (nBuf tb) → BufTy
  | .hbm, ⟨0, _⟩ => ⟨S16384x64, .f32⟩
  | .hbm, ⟨1, _⟩ => ⟨S16x64, .f32⟩
  | .hbm, ⟨2, _⟩ => ⟨S16x64, .f32⟩
  | .hbm, ⟨3, _⟩ => ⟨S16x1x1, .f32⟩
  | .hbm, ⟨4, _⟩ => ⟨S1x16, .f32⟩
  | .hbm, ⟨5, _⟩ => ⟨S16x64, .f32⟩
  | .hbm, ⟨6, _⟩ => ⟨S16x64, .f32⟩
  | .hbm, ⟨7, _⟩ => ⟨S16x64, .f32⟩
  | .hbm, ⟨8, _⟩ => ⟨S1x64, .f32⟩
  | .hbm, ⟨9, _⟩ => ⟨S1048576, .f32⟩
  | .hbm, ⟨10, _⟩ => ⟨S1048576, .f32⟩
  | .hbm, ⟨11, _⟩ => ⟨S16384x64, .f32⟩
  | .local .tc .vmem, ⟨0, _⟩ => ⟨S1x16, .f32⟩
  | .local .tc .vmem, ⟨1, _⟩ => ⟨S16x64, .f32⟩
  | .local .tc .vmem, ⟨2, _⟩ => ⟨S16x64, .f32⟩
  | .local .tc .vmem, ⟨3, _⟩ => ⟨S16x64, .f32⟩
  | .local .tc .vmem, ⟨4, _⟩ => ⟨S16x64, .f32⟩
  | .local .tc .vmem, ⟨5, _⟩ => ⟨S16x64, .f32⟩
  | .local .tc .vmem, ⟨6, _⟩ => ⟨S1x64, .f32⟩
  | .local .scVector .vmem, ⟨0, _⟩ => ⟨S32768, .f32⟩
  | .local .scVector .vmem, ⟨1, _⟩ => ⟨S32768, .f32⟩
  | .local .scVector .vmem, ⟨2, _⟩ => ⟨S16x64, .f32⟩
  | .local .scVector .vmem, ⟨3, _⟩ => ⟨S16x64, .f32⟩
  | .local .scVector .vmem, ⟨4, _⟩ => ⟨S16x64, .f32⟩
  | .local .scVector .vmem, ⟨5, _⟩ => ⟨S1x64, .f32⟩
  | _, _ => ⟨S16384x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v2_scv : Ref sig .scVector := ⟨.hbm, 9, rfl⟩
abbrev main_v1_0_scv : Ref sig .scVector := ⟨.hbm, 5, rfl⟩
abbrev main_v1_1_scv : Ref sig .scVector := ⟨.hbm, 6, rfl⟩
abbrev main_v1_2_scv : Ref sig .scVector := ⟨.hbm, 7, rfl⟩
abbrev main_v1_3_scv : Ref sig .scVector := ⟨.hbm, 8, rfl⟩
abbrev main_v3_scv : Ref sig .scVector := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  ![v2.toNat]
@[reducible] def k1_t1_loop : Scf.Loop 32 :=
  let c0_i32_83 : BitVec 32 := 0#32
  let c512_i32 : BitVec 32 := 512#32
  let v105 : BitVec 32 := Scalar.addi c0_i32_83 c512_i32
  let c1_i32_84 : BitVec 32 := 1#32
  ⟨c0_i32_83, v105, c1_i32_84⟩
def k1_off2 (k1_t1 : Fin k1_t1_loop.trips) : Fin 1 → Nat :=
  let c0_i32_83 : BitVec 32 := 0#32
  let c1_i32_84 : BitVec 32 := 1#32
  let arg15 : BitVec 32 := Scf.iv c0_i32_83 c1_i32_84 k1_t1
  let c64_i32 : BitVec 32 := 64#32
  let v403 : BitVec 32 := Scalar.muli arg15 c64_i32
  let c0_i32_392 : BitVec 32 := 0#32
  let v404 : BitVec 32 := Scalar.addi v403 c0_i32_392
  let v405 : Index := Scalar.indexCast v404
  ![v405.toNat]
@[reducible] def k1_t2_loop : Scf.Loop 32 :=
  let c0_i32_184 : BitVec 32 := 0#32
  let c512_i32_185 : BitVec 32 := 512#32
  let v204 : BitVec 32 := Scalar.addi c0_i32_184 c512_i32_185
  let c1_i32_186 : BitVec 32 := 1#32
  ⟨c0_i32_184, v204, c1_i32_186⟩
def k1_off3 (k1_t2 : Fin k1_t2_loop.trips) : Fin 1 → Nat :=
  let c0_i32_184 : BitVec 32 := 0#32
  let c1_i32_186 : BitVec 32 := 1#32
  let arg15 : BitVec 32 := Scf.iv c0_i32_184 c1_i32_186 k1_t2
  let c64_i32 : BitVec 32 := 64#32
  let v403 : BitVec 32 := Scalar.muli arg15 c64_i32
  let c16_i32 : BitVec 32 := 16#32
  let v404 : BitVec 32 := Scalar.addi v403 c16_i32
  let v405 : Index := Scalar.indexCast v404
  ![v405.toNat]
@[reducible] def k1_t3_loop : Scf.Loop 32 :=
  let c0_i32_286 : BitVec 32 := 0#32
  let c512_i32_287 : BitVec 32 := 512#32
  let v303 : BitVec 32 := Scalar.addi c0_i32_286 c512_i32_287
  let c1_i32_288 : BitVec 32 := 1#32
  ⟨c0_i32_286, v303, c1_i32_288⟩
def k1_off4 (k1_t3 : Fin k1_t3_loop.trips) : Fin 1 → Nat :=
  let c0_i32_286 : BitVec 32 := 0#32
  let c1_i32_288 : BitVec 32 := 1#32
  let arg15 : BitVec 32 := Scf.iv c0_i32_286 c1_i32_288 k1_t3
  let c64_i32 : BitVec 32 := 64#32
  let v403 : BitVec 32 := Scalar.muli arg15 c64_i32
  let c32_i32 : BitVec 32 := 32#32
  let v404 : BitVec 32 := Scalar.addi v403 c32_i32
  let v405 : Index := Scalar.indexCast v404
  ![v405.toNat]
@[reducible] def k1_t4_loop : Scf.Loop 32 :=
  let c0_i32_388 : BitVec 32 := 0#32
  let c512_i32_389 : BitVec 32 := 512#32
  let v402 : BitVec 32 := Scalar.addi c0_i32_388 c512_i32_389
  let c1_i32_390 : BitVec 32 := 1#32
  ⟨c0_i32_388, v402, c1_i32_390⟩
def k1_off5 (k1_t4 : Fin k1_t4_loop.trips) : Fin 1 → Nat :=
  let c0_i32_388 : BitVec 32 := 0#32
  let c1_i32_390 : BitVec 32 := 1#32
  let arg15 : BitVec 32 := Scf.iv c0_i32_388 c1_i32_390 k1_t4
  let c64_i32 : BitVec 32 := 64#32
  let v403 : BitVec 32 := Scalar.muli arg15 c64_i32
  let c48_i32 : BitVec 32 := 48#32
  let v404 : BitVec 32 := Scalar.addi v403 c48_i32
  let v405 : Index := Scalar.indexCast v404
  ![v405.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "log_norm" => some (((-8192) * (Real.log (13176795 / 2097152)) : ℝ) : EReal)
  | _ => none
-- ==== ReferenceIdeal.lean ====
abbrev S16384x64 : Shape := ⟨2, ![16384, 64]⟩
abbrev S16x64 : Shape := ⟨2, ![16, 64]⟩
abbrev S16x1x1 : Shape := ⟨3, ![16, 1, 1]⟩
abbrev S_ : Shape := ⟨0, ![]⟩
abbrev S1x1 : Shape := ⟨2, ![1, 1]⟩
abbrev S1x1x1 : Shape := ⟨3, ![1, 1, 1]⟩
abbrev S1x16384x64 : Shape := ⟨3, ![1, 16384, 64]⟩
abbrev S16x1x64 : Shape := ⟨3, ![16, 1, 64]⟩
abbrev S16x16384x64 : Shape := ⟨3, ![16, 16384, 64]⟩

abbrev nBuf : Space → Nat
  | .hbm => 67
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16x64, .f32⟩
  | .hbm, ⟨2, _⟩ => ⟨S16x64, .f32⟩
  | .hbm, ⟨3, _⟩ => ⟨S16x1x1, .f32⟩
  | .hbm, ⟨4, _⟩ => ⟨S_, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S1x1, .f32⟩
  | .hbm, ⟨9, _⟩ => ⟨S1x1x1, .f32⟩
  | .hbm, ⟨10, _⟩ => ⟨S16x1x1, .f32⟩
  | .hbm, ⟨11, _⟩ => ⟨S16x1x1, .f32⟩
  | .hbm, ⟨12, _⟩ => ⟨S16x1x1, .f32⟩
  | .hbm, ⟨13, _⟩ => ⟨S_, .f32⟩
  | .hbm, ⟨14, _⟩ => ⟨S1x1, .f32⟩
  | .hbm, ⟨15, _⟩ => ⟨S1x1x1, .f32⟩
  | .hbm, ⟨16, _⟩ => ⟨S16x1x1, .f32⟩
  | .hbm, ⟨17, _⟩ => ⟨S16x1x1, .f32⟩
  | .hbm, ⟨18, _⟩ => ⟨S1x16384x64, .f32⟩
  | .hbm, ⟨19, _⟩ => ⟨S16x1x64, .f32⟩
  | .hbm, ⟨20, _⟩ => ⟨S16x1x64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S16x1x64, .f32⟩
  | .hbm, ⟨27, _⟩ => ⟨S16x1x64, .f32⟩
  | .hbm, ⟨28, _⟩ => ⟨S_, .f32⟩
  | .hbm, ⟨29, _⟩ => ⟨S16x1x64, .f32⟩
  | .hbm, ⟨30, _⟩ => ⟨S16x1x64, .f32⟩
  | .hbm, ⟨31, _⟩ => ⟨S16x1x64, .f32⟩
  | .hbm, ⟨32, _⟩ => ⟨S16x1x64, .f32⟩
  | .hbm, ⟨33, _⟩ => ⟨S_, .f32⟩
  | .hbm, ⟨34, _⟩ => ⟨S16x1x64, .f32⟩
  | .hbm, ⟨35, _⟩ => ⟨S16x1x64, .f32⟩
  | .hbm, ⟨36, _⟩ => ⟨S16x16384x64, .f32⟩
  | .hbm, ⟨37, _⟩ => ⟨S16x16384x64, .f32⟩
  | .hbm, ⟨38, _⟩ => ⟨S16x16384x64, .f32⟩
  | .hbm, ⟨39, _⟩ => ⟨S_, .f32⟩
  | .hbm, ⟨40, _⟩ => ⟨S16x16384x64, .f32⟩
  | .hbm, ⟨41, _⟩ => ⟨S16x16384x64, .f32⟩
  | .hbm, ⟨42, _⟩ => ⟨S16x16384x64, .f32⟩
  | .hbm, ⟨43, _⟩ => ⟨S16x16384x64, .f32⟩
  | .hbm, ⟨44, _⟩ => ⟨S16x16384x64, .f32⟩
  | .hbm, ⟨45, _⟩ => ⟨S16x16384x64, .f32⟩
  | .hbm, ⟨46, _⟩ => ⟨S16x1x1, .f32⟩
  | .hbm, ⟨47, _⟩ => ⟨S16x16384x64, .f32⟩
  | .hbm, ⟨48, _⟩ => ⟨S16x16384x64, .f32⟩
  | .hbm, ⟨49, _⟩ => ⟨S_, .f32⟩
  | .hbm, ⟨50, _⟩ => ⟨S16384x64, .f32⟩
  | .hbm, ⟨51, _⟩ => ⟨S16384x64, .f32⟩
  | .hbm, ⟨52, _⟩ => ⟨S_, .f32⟩
  | .hbm, ⟨53, _⟩ => ⟨S16384x64, .f32⟩
  | .hbm, ⟨54, _⟩ => ⟨S16384x64, .i1⟩
  | .hbm, ⟨55, _⟩ => ⟨S_, .f32⟩
  | .hbm, ⟨56, _⟩ => ⟨S_, .f32⟩
  | .hbm, ⟨57, _⟩ => ⟨S16384x64, .f32⟩
  | .hbm, ⟨58, _⟩ => ⟨S16384x64, .f32⟩
  | .hbm, ⟨59, _⟩ => ⟨S1x16384x64, .f32⟩
  | .hbm, ⟨60, _⟩ => ⟨S16x16384x64, .f32⟩
  | .hbm, ⟨61, _⟩ => ⟨S16x16384x64, .f32⟩
  | .hbm, ⟨62, _⟩ => ⟨S16x16384x64, .f32⟩
  | .hbm, ⟨63, _⟩ => ⟨S_, .f32⟩
  | .hbm, ⟨64, _⟩ => ⟨S16384x64, .f32⟩
  | .hbm, ⟨65, _⟩ => ⟨S16384x64, .f32⟩
  | .hbm, ⟨66, _⟩ => ⟨S16384x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_cst_8 : Ref sig .tc := ⟨.hbm, 52, rfl⟩
abbrev main_v39 : Ref sig .tc := ⟨.hbm, 53, rfl⟩
abbrev main_v40 : Ref sig .tc := ⟨.hbm, 54, rfl⟩
abbrev main_cst_9 : Ref sig .tc := ⟨.hbm, 55, rfl⟩
abbrev main_call0_v0 : Ref sig .tc := ⟨.hbm, 56, rfl⟩
abbrev main_call0_v1 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]
-- ==== Proof.Base.lean ====
/-
  The vocabulary of the hand proofs about `KernelIdeal`: the program as the SparseCore launch theorem sees it (its
  configuration, its table of bodies), the ghost state (the handshakes' rounds beside the transfers' counters), and the
  arrays and scratch buffers that the vector subcores' task names.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Mix

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

section Program

variable [FloatOps F] [Named F]

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's own semaphores are four, none of them a kernel's scratch. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

end Program

/-! ## The ghost state -/

abbrev UH : Type := URounds (GSem nD τ sig) ℕ
/-- The handshakes' rounds, the rounds of the TensorCore call's staging cells, and the transfers' counters. -/
abbrev UU : Type := UH × (UR sig nD τ × Counters)

local notation "𝕄" => MT nD τ sig (HIx 1) (Elt F) ℕ UU ℕ

/-- The handshakes' rounds are the left factor; the transfers' counters are found by instance in the last one. -/
abbrev EH : Emb UH (MT nD τ sig (HIx 1) (Elt F) ℕ UU ℕ) := embL

/-- The staging cells' rounds are the middle factor. -/
abbrev EP : Emb (UR sig nD τ) (MT nD τ sig (HIx 1) (Elt F) ℕ UU ℕ) :=
  (Emb.inl : Emb (UR sig nD τ) (UR sig nD τ × Counters)).trans embR

end Cert.Proof.Mix
-- ==== Proof.Lane.lean ====
/-
  What one vector subcore computes, over any float values: the sixteen components' terms at one latent value, their sum
  in the order in which the kernel adds them, and the element of the result. Then the same sum on a register of sixteen
  lanes, and how the registers read the tables of coefficients.
-/
module

public import proofs.«01_k».proof.Proof.Base
public import Idealize.ShloMosaic.Lib.WritesUnit
public import Idealize.ShloMosaic.Lib.ValueIdx

@[expose] public section

noncomputable section

namespace Cert.Proof.Mix

open Cert.KernelIdeal Cert.KernelIdeal.Gen
open Idealize.ShloMosaic

variable {F : FTy → Type} [FloatOps F]

/-- The term of component `k` at the latent value `x`: `exp ((a k + b k · x) + g k · x²)`. -/
def term (a b g : ℕ → F .f32) (x : F .f32) (k : ℕ) : F .f32 :=
  FloatOps.exp (FloatOps.addf (FloatOps.addf (a k) (FloatOps.mulf (b k) x)) (FloatOps.mulf (g k) (FloatOps.mulf x x)))

/-- The terms of the components `0 … n`, added in that order. -/
def termSum (a b g : ℕ → F .f32) (x : F .f32) : ℕ → F .f32
  | 0 => term a b g x 0
  | n + 1 => FloatOps.addf (termSum a b g x n) (term a b g x (n + 1))

/-- An element of the result: the offset `c` plus the logarithm of the sum of the sixteen terms. -/
def lane (a b g : ℕ → F .f32) (c x : F .f32) : F .f32 :=
  FloatOps.addf c (FloatOps.log (termSum a b g x 15))

/-- Entry (`k`, `c`) of a table of sixteen rows and sixty-four columns. -/
abbrev at2 (k c : ℕ) : S16x64.Idx := ValueIdx.ix2 (n0 := 16) (n1 := 64) ⟨k % 16, Nat.mod_lt _ (by decide)⟩ ⟨c % 64, Nat.mod_lt _ (by decide)⟩

/-- Entry `c` of a row of sixty-four columns. -/
abbrev at1 (c : ℕ) : S1x64.Idx := ValueIdx.ix2 (n0 := 1) (n1 := 64) 0 ⟨c % 64, Nat.mod_lt _ (by decide)⟩

/-- The result at flat position `n` (column `n % 64`), from the four tables and the latent value there. -/
def outAt (al be ga : S16x64.Idx → F .f32) (ac : S1x64.Idx → F .f32) (x : F .f32) (n : ℕ) : F .f32 :=
  lane (fun k => al (at2 k n)) (fun k => be (at2 k n)) (fun k => ga (at2 k n)) (ac (at1 n)) x

/-! ## On a register of sixteen lanes -/

/-- The same sum, lane by lane, of registers. -/
def laneVec (A B G : ℕ → FVec F S16 .f32) (C v : FVec F S16 .f32) : FVec F S16 .f32 :=
  fun i => lane (fun k => A k i) (fun k => B k i) (fun k => G k i) (C i) (v i)

theorem row_inb (n c : ℕ) (hc : c + 16 ≤ 64) : ∀ a, (![n % 16, c] : Fin 2 → ℕ) a + S1x16.size a ≤ S16x64.size a := by
  intro a
  have := Nat.mod_lt n (show 0 < 16 by decide)
  match a with
  | ⟨0, _⟩ => show n % 16 + 1 ≤ 16; omega
  | ⟨1, _⟩ => show c + 16 ≤ 64; omega

theorem top_inb (c : ℕ) (hc : c + 16 ≤ 64) : ∀ a, (![0, c] : Fin 2 → ℕ) a + S1x16.size a ≤ S1x64.size a := by
  intro a
  match a with
  | ⟨0, _⟩ => show 0 + 1 ≤ 1; omega
  | ⟨1, _⟩ => show c + 16 ≤ 64; omega

/-- The register read from row `n` of a table, at the sixteen columns from `c`. -/
def rowOf {κ : Kind} {sp : Space} (v : View sig κ sp S16x64 .f32) (f : v.ty.Contents (Elt F)) (c : ℕ) (hc : c + 16 ≤ 64) (n : ℕ) : FVec F S16 .f32 :=
  shapeCast S16 (v.readAt (Elt F) (Rect.unit (s := S16x64) ![n % 16, c] S1x16.size (row_inb n c hc)).toLoadRect f) shapeCasts_S1x16_S16

/-- The register read from the row of offsets, at the sixteen columns from `c`. -/
def topOf {κ : Kind} {sp : Space} (v : View sig κ sp S1x64 .f32) (f : v.ty.Contents (Elt F)) (c : ℕ) (hc : c + 16 ≤ 64) : FVec F S16 .f32 :=
  shapeCast S16 (v.readAt (Elt F) (Rect.unit (s := S1x64) ![0, c] S1x16.size (top_inb c hc)).toLoadRect f) shapeCasts_S1x16_S16

/-- Lane `i` of a register is the entry (0, `i`) of the row it was read from. -/
theorem lane_index (h : S16.numel = S1x16.numel) (i : S16.Idx) :
    Shape.reshapeEquiv h i = ValueIdx.ix2 (n0 := 1) (n1 := 16) 0 (i 0) :=
  Shape.reshapeEquiv_eq_of_rowMajor h (by
    rw [Shape.rowMajor_val_two, Shape.rowMajor_val_one]
    show 0 * 16 + (i 0).val = (i 0).val
    omega)

theorem rowOf_apply {κ : Kind} {sp : Space} (v : View sig κ sp S16x64 .f32) (f : v.ty.Contents (Elt F)) (c : ℕ) (hc : c + 16 ≤ 64) (n : ℕ) (i : S16.Idx) :
    rowOf v f c hc n i = v.read (Elt F) f (at2 n (c + (i 0).val)) := by
  unfold rowOf
  show v.read (Elt F) f (LoadRect.idx _ (Shape.reshapeEquiv _ i)) = _
  rw [lane_index]
  refine congrArg _ (funext fun a => Fin.ext ?_)
  have hi : (i 0).val < 16 := (i 0).isLt
  match a with
  | ⟨0, _⟩ => show n % 16 + 1 * 0 = n % 16; omega
  | ⟨1, _⟩ => show c + 1 * (i 0).val = (c + (i 0).val) % 64; omega

theorem topOf_apply {κ : Kind} {sp : Space} (v : View sig κ sp S1x64 .f32) (f : v.ty.Contents (Elt F)) (c : ℕ) (hc : c + 16 ≤ 64) (i : S16.Idx) :
    topOf v f c hc i = v.read (Elt F) f (at1 (c + (i 0).val)) := by
  unfold topOf
  show v.read (Elt F) f (LoadRect.idx _ (Shape.reshapeEquiv _ i)) = _
  rw [lane_index]
  refine congrArg _ (funext fun a => Fin.ext ?_)
  have hi : (i 0).val < 16 := (i 0).isLt
  match a with
  | ⟨0, _⟩ => rfl
  | ⟨1, _⟩ => show c + 1 * (i 0).val = (c + (i 0).val) % 64; omega

/-- The registers of column block `j` give, on row `k` of the chunk, the result's elements at the chunk's positions
`64 k + 16 j + i`. -/
theorem laneVec_rows {κ : Kind} {sp : Space} (va vb vg : View sig κ sp S16x64 .f32) (vc : View sig κ sp S1x64 .f32)
    (fa : va.ty.Contents (Elt F)) (fb : vb.ty.Contents (Elt F)) (fg : vg.ty.Contents (Elt F)) (fc : vc.ty.Contents (Elt F))
    (c : ℕ) (hc : c + 16 ≤ 64) (k : ℕ) (v : FVec F S16 .f32) (i : S16.Idx) :
    laneVec (rowOf va fa c hc) (rowOf vb fb c hc) (rowOf vg fg c hc) (topOf vc fc c hc) v i
      = outAt (va.read (Elt F) fa) (vb.read (Elt F) fb) (vg.read (Elt F) fg) (vc.read (Elt F) fc) (v i) (64 * k + c + (i 0).val) := by
  have h2 : ∀ n, at2 n (64 * k + c + (i 0).val) = at2 n (c + (i 0).val) := fun n => by
    unfold at2; congr 2; omega
  have h1 : at1 (64 * k + c + (i 0).val) = at1 (c + (i 0).val) := by
    unfold at1; congr 2; omega
  unfold laneVec outAt
  simp only [rowOf_apply, topOf_apply, h1, h2]

end Cert.Proof.Mix
-- ==== Proof.Tile.lean ====
module

public import proofs.«01_k».proof.Proof.Lane

@[expose] public section

noncomputable section

namespace Cert.Proof.Mix

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

local notation "zW" => (Memref.whole Cert.KernelIdeal.main_v2_scv : Memref Cert.KernelIdeal.sig Kind.scVector Space.hbm Cert.KernelIdeal.S1048576 EltTy.f32)
local notation "alW" => (Memref.whole Cert.KernelIdeal.main_v1_0_scv : Memref Cert.KernelIdeal.sig Kind.scVector Space.hbm Cert.KernelIdeal.S16x64 EltTy.f32)
local notation "beW" => (Memref.whole Cert.KernelIdeal.main_v1_1_scv : Memref Cert.KernelIdeal.sig Kind.scVector Space.hbm Cert.KernelIdeal.S16x64 EltTy.f32)
local notation "gaW" => (Memref.whole Cert.KernelIdeal.main_v1_2_scv : Memref Cert.KernelIdeal.sig Kind.scVector Space.hbm Cert.KernelIdeal.S16x64 EltTy.f32)
local notation "acW" => (Memref.whole Cert.KernelIdeal.main_v1_3_scv : Memref Cert.KernelIdeal.sig Kind.scVector Space.hbm Cert.KernelIdeal.S1x64 EltTy.f32)
local notation "oW" => (Memref.whole Cert.KernelIdeal.main_v3_scv : Memref Cert.KernelIdeal.sig Kind.scVector Space.hbm Cert.KernelIdeal.S1048576 EltTy.f32)
local notation "sZ" => (Memref.whole Cert.KernelIdeal.cc1_scratch0 : Memref Cert.KernelIdeal.sig Kind.scVector Space.vmem Cert.KernelIdeal.S32768 EltTy.f32)
local notation "sO" => (Memref.whole Cert.KernelIdeal.cc1_scratch1 : Memref Cert.KernelIdeal.sig Kind.scVector Space.vmem Cert.KernelIdeal.S32768 EltTy.f32)
local notation "sA" => (Memref.whole Cert.KernelIdeal.cc1_scratch2 : Memref Cert.KernelIdeal.sig Kind.scVector Space.vmem Cert.KernelIdeal.S16x64 EltTy.f32)
local notation "sB" => (Memref.whole Cert.KernelIdeal.cc1_scratch3 : Memref Cert.KernelIdeal.sig Kind.scVector Space.vmem Cert.KernelIdeal.S16x64 EltTy.f32)
local notation "sG" => (Memref.whole Cert.KernelIdeal.cc1_scratch4 : Memref Cert.KernelIdeal.sig Kind.scVector Space.vmem Cert.KernelIdeal.S16x64 EltTy.f32)
local notation "sC" => (Memref.whole Cert.KernelIdeal.cc1_scratch5 : Memref Cert.KernelIdeal.sig Kind.scVector Space.vmem Cert.KernelIdeal.S1x64 EltTy.f32)

abbrev cV (L : grid1.Coords) : Fin τ.nSC := (L 0).castLE hcore1
abbrev jV (L : grid1.Coords) : Fin τ.nSub := (L 1).castLE hsub1
abbrev VT (d : Dev nD) (L : grid1.Coords) : Thread nD τ := V d (cV L) (jV L)

abbrev chunk (L : grid1.Coords) : Rect S1048576 := Rect.unit (s := S1048576) (k1_off1 L) S32768.size (k1_off1_inb L)
abbrev oK (L : grid1.Coords) : Memref sig .scVector .hbm S32768 .f32 := (oW).slice (chunk L) (fun _ => rfl)

/-- What the staged result holds before trip `k` of the loop over column block `j`: the target `G` at the columns of the
earlier blocks, and at this block's columns of the first `k` rows. -/
def Done (G : S32768.Idx → Elt F .f32) (j k : ℕ) (f : S32768.Idx → Elt F .f32) : Prop :=
  ∀ n : S32768.Idx, ((n 0).val % 64 < 16 * j ∨ ((n 0).val % 64 < 16 * j + 16 ∧ (n 0).val / 64 < k)) → f n = G n

/-- The invariant of a loop: the latent values staged, and the result staged as far as it is done. -/
def inv (d : Dev nD) (L : grid1.Coords) (x : Buf (Elt F) ((VT d L).loc cc1_scratch0)) (G : S32768.Idx → Elt F .f32) (j k : ℕ) : sProp 𝕄 :=
  iprop(((sZ).view.loc (VT d L) ↦{fullShare} x) ∗ ∃ f : Buf (Elt F) ((VT d L).loc cc1_scratch1), ((sO).view.loc (VT d L) ↦{fullShare} f) ∗ ⌜Done G j k f⌝)

/-- A trip's store carries the invariant on: the sixteen lanes stored are the target's. -/
theorem done_step (G : S32768.Idx → Elt F .f32) (j k : ℕ) (f : S32768.Idx → Elt F .f32) (hf : Done G j k f)
    (off : Fin 1 → ℕ) (hoff : off = ![64 * k + 16 * j]) (hj : j < 4) (inb : ∀ a, off a + S16.size a ≤ S32768.size a) (w : S16.Idx → Elt F .f32)
    (hw : ∀ (i : S16.Idx) (n : S32768.Idx), (n 0).val = 64 * k + 16 * j + (i 0).val → w i = G n) :
    Done G j (k + 1) ((sO).view.writes (Elt F) f [⟨Rect.unit off S16.size inb, w⟩]) := by
  intro n hn
  show (sO).view.read (Elt F) ((sO).view.writes (Elt F) f [⟨Rect.unit off S16.size inb, w⟩]) n = G n
  by_cases h : 64 * k + 16 * j ≤ (n 0).val ∧ (n 0).val < 64 * k + 16 * j + 16
  · rw [View.read_writes_cons_unit_of_mem (sO).view f inb w [] n (fun a => ⟨(n a).val - (64 * k + 16 * j), by
      match a with | ⟨0, _⟩ => show (n 0).val - _ < 16; omega⟩) hoff (fun a => by
      match a with | ⟨0, _⟩ => show (n 0).val = (64 * k + 16 * j) + ((n 0).val - (64 * k + 16 * j)); omega)]
    exact hw _ n (by show (n 0).val = 64 * k + 16 * j + ((n 0).val - (64 * k + 16 * j)); omega)
  · rw [View.read_writes_cons_unit_of_not_mem (sO).view f inb w [] n hoff 0 (by
      show (n 0).val < 64 * k + 16 * j ∨ 64 * k + 16 * j + 16 ≤ (n 0).val; omega)]
    exact hf n (by omega)

theorem done_next (G : S32768.Idx → Elt F .f32) (j : ℕ) (f : S32768.Idx → Elt F .f32) (hf : Done G j 512 f) : Done G (j + 1) 0 f := by
  intro n hn
  have : (n 0).val < 32768 := (n 0).isLt
  exact hf n (by omega)

theorem done_zero (G : S32768.Idx → Elt F .f32) (f : S32768.Idx → Elt F .f32) : Done G 0 0 f := by
  intro n hn; omega

/-- The latent values of the tile's chunk. -/
def zs (L : grid1.Coords) (z : S1048576.Idx → Elt F .f32) : S32768.Idx → Elt F .f32 := (oK L).view.read (Elt F) z

/-- What the tile stages: the result at the chunk's positions. -/
def tileOut (L : grid1.Coords) (z : S1048576.Idx → Elt F .f32) (al be ga : S16x64.Idx → Elt F .f32) (ac : S1x64.Idx → Elt F .f32) :
    S32768.Idx → Elt F .f32 :=
  fun n => outAt al be ga ac (zs L z n) (n 0).val

/-- The result at every flat position. -/
def gOut (z : S1048576.Idx → Elt F .f32) (al be ga : S16x64.Idx → Elt F .f32) (ac : S1x64.Idx → Elt F .f32) : S1048576.Idx → Elt F .f32 :=
  fun n => outAt al be ga ac (z n) (n 0).val

/-- The sixteen latent values that a trip reads are those of the positions that it stores. -/
theorem outAt_lane (L : grid1.Coords) (z : S1048576.Idx → Elt F .f32) (al be ga : S16x64.Idx → Elt F .f32) (ac : S1x64.Idx → Elt F .f32)
    (p : ℕ) (off : Fin 1 → ℕ) (hoff : off = ![p]) (inb : ∀ a, off a + S16.size a ≤ S32768.size a) (i : S16.Idx) (n : S32768.Idx) (hn : (n 0).val = p + (i 0).val) :
    outAt al be ga ac ((sZ).view.readAt (Elt F) (Rect.unit (s := S32768) off S16.size inb).toLoadRect (zs L z) i) (p + (i 0).val)
      = tileOut L z al be ga ac n := by
  subst hoff
  have e : (Rect.unit (s := S32768) ![p] S16.size inb).toLoadRect.idx i = n := by
    funext a
    match a with
    | ⟨0, _⟩ => exact Fin.ext (by show p + 1 * (i 0).val = (n 0).val; omega)
  show outAt al be ga ac (zs L z ((Rect.unit (s := S32768) ![p] S16.size inb).toLoadRect.idx i)) (p + (i 0).val) = outAt al be ga ac (zs L z n) (n 0).val
  rw [e, hn]

/-- The chunk of the result, at the global positions. -/
theorem tileOut_chunk (L : grid1.Coords) (z : S1048576.Idx → Elt F .f32) (al be ga : S16x64.Idx → Elt F .f32) (ac : S1x64.Idx → Elt F .f32) (n : S32768.Idx) :
    tileOut L z al be ga ac n = gOut z al be ga ac ((chunk L).emb n) := by
  have e : (((chunk L).emb n) 0).val = 65536 * (L 1).val + 32768 * (L 0).val + (n 0).val := by
    show k1_off1 L 0 + 1 * (n 0).val = _
    rw [k1_off1_eq]; show 65536 * (L 1).val + 32768 * (L 0).val + 1 * (n 0).val = _; omega
  have h2 : ∀ k, at2 k (((chunk L).emb n) 0).val = at2 k (n 0).val := fun k => by
    unfold at2; congr 2; omega
  have h1 : at1 (((chunk L).emb n) 0).val = at1 (n 0).val := by
    unfold at1; congr 2; omega
  unfold tileOut gOut outAt
  simp only [h1, h2]
  rfl

/-- A copy of the staged result over the chunk leaves at the chunk's position `m` what was staged there. -/
theorem landed (L : grid1.Coords) (o : S1048576.Idx → Elt F .f32) (w : S32768.Idx → Elt F .f32) (m : S32768.Idx) :
    (oK L).view.writes (Elt F) o [⟨Rect.whole S32768, w⟩] ((oK L).view.emb m) = w m := by
  have e : (Rect.whole S32768).emb m = m := funext fun a => Fin.ext (by
    show 0 + 1 * (m a).val = (m a).val; omega)
  have h := View.read_writes_cons_emb (oK L).view o (Rect.whole S32768) w [] m
  rw [e, View.read_apply] at h
  exact (cast_eq _ _).symm.trans h

set_option maxHeartbeats 4000000 in
theorem tile_run (d : Dev nD) (L : grid1.Coords) (q : PosShare TreeShare)
    (z : Buf (Elt F) ((VT d L).loc main_v2_scv)) (al : Buf (Elt F) ((VT d L).loc main_v1_0_scv)) (be : Buf (Elt F) ((VT d L).loc main_v1_1_scv))
    (ga : Buf (Elt F) ((VT d L).loc main_v1_2_scv)) (ac : Buf (Elt F) ((VT d L).loc main_v1_3_scv)) (o : Buf (Elt F) ((VT d L).loc main_v3_scv))
    (f8 : Buf (Elt F) ((VT d L).loc cc1_scratch0)) (f9 : Buf (Elt F) ((VT d L).loc cc1_scratch1)) (f10 : Buf (Elt F) ((VT d L).loc cc1_scratch2))
    (f11 : Buf (Elt F) ((VT d L).loc cc1_scratch3)) (f12 : Buf (Elt F) ((VT d L).loc cc1_scratch4)) (f13 : Buf (Elt F) ((VT d L).loc cc1_scratch5))
    (O : CellTallies nD τ sig (HIx 1)) (W : Waits sig (HIx 1)) :
    iprop(Transfers.MayWaits (VT d L) (none : HIx 1) O
        ∗ ((zW).view.loc (VT d L) ↦{q} z) ∗ ((alW).view.loc (VT d L) ↦{q} al) ∗ ((beW).view.loc (VT d L) ↦{q} be)
        ∗ ((gaW).view.loc (VT d L) ↦{q} ga) ∗ ((acW).view.loc (VT d L) ↦{q} ac)
        ∗ ((oK L).view.loc (VT d L) ↦[(oK L).view.set]{fullShare} o)
        ∗ ((sZ).view.loc (VT d L) ↦{fullShare} f8) ∗ ((sO).view.loc (VT d L) ↦{fullShare} f9) ∗ ((sA).view.loc (VT d L) ↦{fullShare} f10)
        ∗ ((sB).view.loc (VT d L) ↦{fullShare} f11) ∗ ((sG).view.loc (VT d L) ↦{fullShare} f12) ∗ ((sC).view.loc (VT d L) ↦{fullShare} f13)
        ∗ semVal (VT d L, SemLoc.dma cc1_scratch6.sem) 0 ∗ semVal (VT d L, SemLoc.dma cc1_scoped0.sem) 0
        ∗ semVal (VT d L, SemLoc.dma cc1_scoped1.sem) 0 ∗ semVal (VT d L, SemLoc.dma cc1_scoped2.sem) 0
        ∗ semVal (VT d L, SemLoc.dma cc1_scoped3.sem) 0 ∗ semVal (VT d L, SemLoc.dma cc1_scoped4.sem) 0
        ∗ owes (VT d L) O W : sProp 𝕄)
      ⊢ wp frame (wpE (defs₀ (F := F)) 𝒱₀ (VT d L) none) Set.univ
          (cc1__sc_body L zW (Memref.isWhole_whole _) alW (Memref.isWhole_whole _) beW (Memref.isWhole_whole _) gaW (Memref.isWhole_whole _)
            acW (Memref.isWhole_whole _) oW (Memref.isWhole_whole _) sZ (Memref.isWhole_whole _) sO (Memref.isWhole_whole _) sA (Memref.isWhole_whole _)
            sB (Memref.isWhole_whole _) sG (Memref.isWhole_whole _) sC (Memref.isWhole_whole _) cc1_scratch6 cc1_scoped0 cc1_scoped1 cc1_scoped2 cc1_scoped3 cc1_scoped4)
          fun _ => iprop(((zW).view.loc (VT d L) ↦{q} z) ∗ ((alW).view.loc (VT d L) ↦{q} al) ∗ ((beW).view.loc (VT d L) ↦{q} be)
            ∗ ((gaW).view.loc (VT d L) ↦{q} ga) ∗ ((acW).view.loc (VT d L) ↦{q} ac)
            ∗ ((oK L).view.loc (VT d L) ↦[(oK L).view.set]{fullShare} gOut z al be ga ac)
            ∗ (∃ f, (VT d L).loc cc1_scratch0 ↦{fullShare} f) ∗ (∃ f, (VT d L).loc cc1_scratch1 ↦{fullShare} f) ∗ (∃ f, (VT d L).loc cc1_scratch2 ↦{fullShare} f)
            ∗ (∃ f, (VT d L).loc cc1_scratch3 ↦{fullShare} f) ∗ (∃ f, (VT d L).loc cc1_scratch4 ↦{fullShare} f) ∗ (∃ f, (VT d L).loc cc1_scratch5 ↦{fullShare} f)
            ∗ semVal (VT d L, SemLoc.dma cc1_scratch6.sem) 0 ∗ semVal (VT d L, SemLoc.dma cc1_scoped0.sem) 0
            ∗ semVal (VT d L, SemLoc.dma cc1_scoped1.sem) 0 ∗ semVal (VT d L, SemLoc.dma cc1_scoped2.sem) 0
            ∗ semVal (VT d L, SemLoc.dma cc1_scoped3.sem) 0 ∗ semVal (VT d L, SemLoc.dma cc1_scoped4.sem) 0
            ∗ ∃ W' : Waits sig (HIx 1), ⌜∀ p ∈ W', p ∈ W ∨ p.2 = none⌝ ∗ owes (VT d L) O W') := by
  rw [cc1__sc_body_eq_skeleton]; unfold cc1__sc_body_skel
  iintro ⟨Hmw, Hz, Hal, Hbe, Hga, Hac, Ho, H8, H9, H10, H11, H12, H13, Hs6, Hs0, Hs1, Hs2, Hs3, Hs4, HO⟩
  sl_exec
  have h8 : View.write (Elt F) (Memref.whole cc1_scratch0).view f8 (tile_run.sl.dma0 d L z) Finset.univ = zs L z :=
    View.write_whole_univ _ _ _
  have h10 : View.write (Elt F) (Memref.whole cc1_scratch2).view f10 (tile_run.sl.dma0_1 d L al) Finset.univ = al :=
    View.write_whole_univ _ _ _
  have h11 : View.write (Elt F) (Memref.whole cc1_scratch3).view f11 (tile_run.sl.dma0_2 d L be) Finset.univ = be :=
    View.write_whole_univ _ _ _
  have h12 : View.write (Elt F) (Memref.whole cc1_scratch4).view f12 (tile_run.sl.dma0_3 d L ga) Finset.univ = ga :=
    View.write_whole_univ _ _ _
  have h13 : View.write (Elt F) (Memref.whole cc1_scratch5).view f13 (tile_run.sl.dma0_4 d L ac) Finset.univ = ac :=
    View.write_whole_univ _ _ _
  rw [h8, h10, h11, h12, h13]
  sl_for (fun k _ => inv d L (zs L z) (tileOut L z al be ga ac) 0 k) $$ [H8 H9]
  case region =>
    intro k _
    unfold inv
    iintro ⟨H8, ⟨%f, H9, %hf⟩⟩
    sl_exec
    sl_step
    isplitl [H8]; · iexact H8
    iexists _
    isplitl [H9]; · iexact H9
    ipureintro
    refine done_step _ 0 k.val f hf _ (k1_off2_eq k) (by decide) _ _ fun i n hn => ?_
    refine (congrFun (show _ = laneVec (rowOf (sA).view (View.write (Elt F) (Memref.whole cc1_scratch2).view f10 (tile_run.sl.dma0_1 d L al) Finset.univ) 0 (by decide)) (rowOf (sB).view (View.write (Elt F) (Memref.whole cc1_scratch3).view f11 (tile_run.sl.dma0_2 d L be) Finset.univ) 0 (by decide))
        (rowOf (sG).view (View.write (Elt F) (Memref.whole cc1_scratch4).view f12 (tile_run.sl.dma0_3 d L ga) Finset.univ) 0 (by decide)) (topOf (sC).view (View.write (Elt F) (Memref.whole cc1_scratch5).view f13 (tile_run.sl.dma0_4 d L ac) Finset.univ) 0 (by decide))
        ((sZ).view.readAt (Elt F) (Rect.unit (s := S32768) (k1_off2 k) S16.size (k1_off2_inb k)).toLoadRect (zs L z)) from rfl) i).trans ?_
    rw [h10, h11, h12, h13, laneVec_rows _ _ _ _ _ _ _ _ 0 (by decide) k.val]
    exact outAt_lane L z al be ga ac _ _ (k1_off2_eq k) _ i n hn
  · unfold inv
    isplitl [H8]; · iexact H8
    iexists _; isplitl [H9]; · iexact H9
    ipureintro; exact done_zero _ _
  unfold inv
  iintro %_ ⟨H8, ⟨%g1, H9, %hg1⟩⟩
  sl_exec
  sl_for (fun k _ => inv d L (zs L z) (tileOut L z al be ga ac) 1 k) $$ [H8 H9]
  case region =>
    intro k _
    unfold inv
    iintro ⟨H8, ⟨%f, H9, %hf⟩⟩
    sl_exec
    sl_step
    isplitl [H8]; · iexact H8
    iexists _
    isplitl [H9]; · iexact H9
    ipureintro
    refine done_step _ 1 k.val f hf _ (k1_off3_eq k) (by decide) _ _ fun i n hn => ?_
    refine (congrFun (show _ = laneVec (rowOf (sA).view al 16 (by decide)) (rowOf (sB).view be 16 (by decide))
        (rowOf (sG).view ga 16 (by decide)) (topOf (sC).view ac 16 (by decide))
        ((sZ).view.readAt (Elt F) (Rect.unit (s := S32768) (k1_off3 k) S16.size (k1_off3_inb k)).toLoadRect (zs L z)) from rfl) i).trans ?_
    rw [laneVec_rows _ _ _ _ _ _ _ _ 16 (by decide) k.val]
    exact outAt_lane L z al be ga ac _ _ (k1_off3_eq k) _ i n hn
  · unfold inv
    isplitl [H8]; · iexact H8
    iexists _; isplitl [H9]; · iexact H9
    ipureintro; exact done_next _ 0 _ hg1
  unfold inv
  iintro %_ ⟨H8, ⟨%g2, H9, %hg2⟩⟩
  sl_exec
  sl_for (fun k _ => inv d L (zs L z) (tileOut L z al be ga ac) 2 k) $$ [H8 H9]
  case region =>
    intro k _
    unfold inv
    iintro ⟨H8, ⟨%f, H9, %hf⟩⟩
    sl_exec
    sl_step
    isplitl [H8]; · iexact H8
    iexists _
    isplitl [H9]; · iexact H9
    ipureintro
    refine done_step _ 2 k.val f hf _ (k1_off4_eq k) (by decide) _ _ fun i n hn => ?_
    refine (congrFun (show _ = laneVec (rowOf (sA).view al 32 (by decide)) (rowOf (sB).view be 32 (by decide))
        (rowOf (sG).view ga 32 (by decide)) (topOf (sC).view ac 32 (by decide))
        ((sZ).view.readAt (Elt F) (Rect.unit (s := S32768) (k1_off4 k) S16.size (k1_off4_inb k)).toLoadRect (zs L z)) from rfl) i).trans ?_
    rw [laneVec_rows _ _ _ _ _ _ _ _ 32 (by decide) k.val]
    exact outAt_lane L z al be ga ac _ _ (k1_off4_eq k) _ i n hn
  · unfold inv
    isplitl [H8]; · iexact H8
    iexists _; isplitl [H9]; · iexact H9
    ipureintro; exact done_next _ 1 _ hg2
  unfold inv
  iintro %_ ⟨H8, ⟨%g3, H9, %hg3⟩⟩
  sl_exec
  sl_for (fun k _ => inv d L (zs L z) (tileOut L z al be ga ac) 3 k) $$ [H8 H9]
  case region =>
    intro k _
    unfold inv
    iintro ⟨H8, ⟨%f, H9, %hf⟩⟩
    sl_exec
    sl_step
    isplitl [H8]; · iexact H8
    iexists _
    isplitl [H9]; · iexact H9
    ipureintro
    refine done_step _ 3 k.val f hf _ (k1_off5_eq k) (by decide) _ _ fun i n hn => ?_
    refine (congrFun (show _ = laneVec (rowOf (sA).view al 48 (by decide)) (rowOf (sB).view be 48 (by decide))
        (rowOf (sG).view ga 48 (by decide)) (topOf (sC).view ac 48 (by decide))
        ((sZ).view.readAt (Elt F) (Rect.unit (s := S32768) (k1_off5 k) S16.size (k1_off5_inb k)).toLoadRect (zs L z)) from rfl) i).trans ?_
    rw [laneVec_rows _ _ _ _ _ _ _ _ 48 (by decide) k.val]
    exact outAt_lane L z al be ga ac _ _ (k1_off5_eq k) _ i n hn
  · unfold inv
    isplitl [H8]; · iexact H8
    iexists _; isplitl [H9]; · iexact H9
    ipureintro; exact done_next _ 2 _ hg3
  unfold inv
  iintro %_ ⟨H8, ⟨%g4, H9, %hg4⟩⟩
  sl_exec
  sl_step
  isplitl [Hz]; · iexact Hz
  isplitl [Hal]; · iexact Hal
  isplitl [Hbe]; · iexact Hbe
  isplitl [Hga]; · iexact Hga
  isplitl [Hac]; · iexact Hac
  isplitl [Ho]
  · iapply (Entails.of_eq (pointsTo_congr fun n hn => ?_)) $$ Ho
    obtain ⟨m, -, rfl⟩ := Finset.mem_map.mp hn
    refine Eq.trans ?_ (tileOut_chunk L z al be ga ac m)
    refine Eq.trans ?_ (done_next _ 3 _ hg4 m (by omega))
    exact landed L o g4 m
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [Hs6]; · iexact Hs6
  isplitl [Hs0]; · iexact Hs0
  isplitl [Hs1]; · iexact Hs1
  isplitl [Hs2]; · iexact Hs2
  isplitl [Hs3]; · iexact Hs3
  isplitl [Hs4]; · iexact Hs4
  iexists (insert (SemLoc.dma cc1_scoped4.sem, (default : HIx 1)) (insert (SemLoc.dma cc1_scratch6.sem, (default : HIx 1)) (insert (SemLoc.dma cc1_scoped3.sem, (default : HIx 1)) (insert (SemLoc.dma cc1_scoped2.sem, (default : HIx 1)) (insert (SemLoc.dma cc1_scoped1.sem, (default : HIx 1)) (insert (SemLoc.dma cc1_scoped0.sem, (default : HIx 1)) W))))))
  isplitr
  · ipureintro
    intro p hp
    simp only [Finset.mem_insert] at hp
    rcases hp with rfl | rfl | rfl | rfl | rfl | rfl | hp
    all_goals first | exact .inr rfl | exact .inl hp
  · iexact HO

end Cert.Proof.Mix
-- ==== Proof.Task.lean ====
/-
  The vector subcores' task as the launch sees it: what the TensorCore hands to each SparseCore and each SparseCore to
  its subcores (read shares of the five inputs, and the subcore's own chunk of the result), what comes back (the shares,
  and the chunk at the result's values), and that the task meets this.
-/
module

public import proofs.«01_k».proof.Proof.Tile

@[expose] public section

noncomputable section

namespace Cert.Proof.Mix

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop pointsTo_toks_split pointsTo_toks_join)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

local notation "zW" => (Memref.whole Cert.KernelIdeal.main_v2_scv : Memref Cert.KernelIdeal.sig Kind.scVector Space.hbm Cert.KernelIdeal.S1048576 EltTy.f32)
local notation "alW" => (Memref.whole Cert.KernelIdeal.main_v1_0_scv : Memref Cert.KernelIdeal.sig Kind.scVector Space.hbm Cert.KernelIdeal.S16x64 EltTy.f32)
local notation "beW" => (Memref.whole Cert.KernelIdeal.main_v1_1_scv : Memref Cert.KernelIdeal.sig Kind.scVector Space.hbm Cert.KernelIdeal.S16x64 EltTy.f32)
local notation "gaW" => (Memref.whole Cert.KernelIdeal.main_v1_2_scv : Memref Cert.KernelIdeal.sig Kind.scVector Space.hbm Cert.KernelIdeal.S16x64 EltTy.f32)
local notation "acW" => (Memref.whole Cert.KernelIdeal.main_v1_3_scv : Memref Cert.KernelIdeal.sig Kind.scVector Space.hbm Cert.KernelIdeal.S1x64 EltTy.f32)
local notation "oW" => (Memref.whole Cert.KernelIdeal.main_v3_scv : Memref Cert.KernelIdeal.sig Kind.scVector Space.hbm Cert.KernelIdeal.S1048576 EltTy.f32)
local notation "sZ" => (Memref.whole Cert.KernelIdeal.cc1_scratch0 : Memref Cert.KernelIdeal.sig Kind.scVector Space.vmem Cert.KernelIdeal.S32768 EltTy.f32)
local notation "sO" => (Memref.whole Cert.KernelIdeal.cc1_scratch1 : Memref Cert.KernelIdeal.sig Kind.scVector Space.vmem Cert.KernelIdeal.S32768 EltTy.f32)
local notation "sA" => (Memref.whole Cert.KernelIdeal.cc1_scratch2 : Memref Cert.KernelIdeal.sig Kind.scVector Space.vmem Cert.KernelIdeal.S16x64 EltTy.f32)
local notation "sB" => (Memref.whole Cert.KernelIdeal.cc1_scratch3 : Memref Cert.KernelIdeal.sig Kind.scVector Space.vmem Cert.KernelIdeal.S16x64 EltTy.f32)
local notation "sG" => (Memref.whole Cert.KernelIdeal.cc1_scratch4 : Memref Cert.KernelIdeal.sig Kind.scVector Space.vmem Cert.KernelIdeal.S16x64 EltTy.f32)
local notation "sC" => (Memref.whole Cert.KernelIdeal.cc1_scratch5 : Memref Cert.KernelIdeal.sig Kind.scVector Space.vmem Cert.KernelIdeal.S1x64 EltTy.f32)

/-! ## What goes out and what comes back -/

/-- The contents of the SparseCore call's five inputs, and of its result before the call, on each device. -/
structure Vals (F : FTy → Type) where
  z : (d : Dev nD) → Buf (Elt F) ((T d : Thread nD τ).loc main_v2)
  al : (d : Dev nD) → Buf (Elt F) ((T d : Thread nD τ).loc main_v1_0)
  be : (d : Dev nD) → Buf (Elt F) ((T d : Thread nD τ).loc main_v1_1)
  ga : (d : Dev nD) → Buf (Elt F) ((T d : Thread nD τ).loc main_v1_2)
  ac : (d : Dev nD) → Buf (Elt F) ((T d : Thread nD τ).loc main_v1_3)
  o : (d : Dev nD) → Buf (Elt F) ((T d : Thread nD τ).loc main_v3)

/-- The result of the SparseCore call. -/
def Vals.res (X : Vals F) (d : Dev nD) : Buf (Elt F) ((T d : Thread nD τ).loc main_v3) := gOut (X.z d) (X.al d) (X.be d) (X.ga d) (X.ac d)

/-- A share of the five inputs. -/
def rd (X : Vals F) (q : PosShare TreeShare) (d : Dev nD) : sProp 𝕄 :=
  iprop(((T d : Thread nD τ).loc main_v2 ↦{q} X.z d) ∗ ((T d : Thread nD τ).loc main_v1_0 ↦{q} X.al d) ∗ ((T d : Thread nD τ).loc main_v1_1 ↦{q} X.be d)
    ∗ ((T d : Thread nD τ).loc main_v1_2 ↦{q} X.ga d) ∗ ((T d : Thread nD τ).loc main_v1_3 ↦{q} X.ac d))

instance rd_storable (X : Vals F) (q : PosShare TreeShare) (d : Dev nD) : BI.Storable (upEmb : UEmb _ 𝕄) (rd X q d) := by
  unfold rd; infer_instance

def coordsV (c : Fin (grid1.bound 0)) (s : Fin (grid1.bound 1)) : grid1.Coords :=
  fun | 0 => c | 1 => s | ⟨_ + 2, h⟩ => absurd h (Nat.not_lt.2 (Nat.le_add_left _ _))

/-- The positions of the result that subcore `i` of SparseCore `c` writes. -/
def oSet (c : Fin 2) (i : Fin 16) : Finset S1048576.Idx := (oK (coordsV c i)).view.set

def oPts (d : Dev nD) (c : Fin 2) (i : Fin 16) (f : Buf (Elt F) ((T d : Thread nD τ).loc main_v3)) : sProp 𝕄 :=
  (T d : Thread nD τ).loc main_v3 ↦[oSet c i]{fullShare} f

instance oPts_storable (d : Dev nD) (c : Fin 2) (i : Fin 16) (f : Buf (Elt F) ((T d : Thread nD τ).loc main_v3)) :
    BI.Storable (upEmb : UEmb _ 𝕄) (oPts d c i f) := by
  unfold oPts; infer_instance

abbrev shC (c : Fin 2) : PosShare TreeShare := shareTok fullShare 2 c
abbrev shT (c : Fin 2) (i : Fin 16) : PosShare TreeShare := shareTok (shC c) 16 i

/-- A SparseCore's part: its share of the inputs and its subcores' chunks of the result. -/
def corePart (X : Vals F) (d : Dev nD) (c : Fin 2) (f : Buf (Elt F) ((T d : Thread nD τ).loc main_v3)) : sProp 𝕄 :=
  iprop(rd X (shC c) d ∗ bigSep Finset.univ fun i : Fin 16 => oPts d c i f)
/-- A subcore's part. -/
def tilePart (X : Vals F) (d : Dev nD) (c : Fin 2) (i : Fin 16) (f : Buf (Elt F) ((T d : Thread nD τ).loc main_v3)) : sProp 𝕄 :=
  iprop(rd X (shT c i) d ∗ oPts d c i f)

instance corePart_storable (X : Vals F) (d : Dev nD) (c : Fin 2) (f : Buf (Elt F) ((T d : Thread nD τ).loc main_v3)) :
    BI.Storable (upEmb : UEmb _ 𝕄) (corePart X d c f) := by
  unfold corePart; infer_instance
instance tilePart_storable (X : Vals F) (d : Dev nD) (c : Fin 2) (i : Fin 16) (f : Buf (Elt F) ((T d : Thread nD τ).loc main_v3)) :
    BI.Storable (upEmb : UEmb _ 𝕄) (tilePart X d c i f) := by
  unfold tilePart; infer_instance

theorem nCore_zero : (K (F := F)).nCore 0 = 2 := rfl
theorem nSub_zero : (K (F := F)).nSub 0 = 16 := rfl

/-- The payloads of the launch. -/
def P (X : Vals F) : (K (F := F)).Pay (nD := nD) (Val := Elt F) (Name := ℕ) (U := UU) where
  st := fun q d c => match q with | 0 => corePart X d (Fin.cast nCore_zero c) (X.o d)
  dn := fun q d c => match q with | 0 => corePart X d (Fin.cast nCore_zero c) (X.res d)
  go := fun q d c i => match q with | 0 => tilePart X d (Fin.cast nCore_zero c) (Fin.cast nSub_zero i) (X.o d)
  td := fun q d c i => match q with | 0 => tilePart X d (Fin.cast nCore_zero c) (Fin.cast nSub_zero i) (X.res d)
  x := fun _ _ => iprop(emp)

instance P_storable (X : Vals F) : (P X).IsStorable where
  st q d _ := match q with | 0 => (inferInstance : BI.Storable (upEmb : UEmb _ 𝕄) (corePart X d _ _))
  dn q d _ := match q with | 0 => (inferInstance : BI.Storable (upEmb : UEmb _ 𝕄) (corePart X d _ _))
  go q d _ _ := match q with | 0 => (inferInstance : BI.Storable (upEmb : UEmb _ 𝕄) (tilePart X d _ _ _))
  td q d _ _ := match q with | 0 => (inferInstance : BI.Storable (upEmb : UEmb _ 𝕄) (tilePart X d _ _ _))

/-! ## Shares and chunks -/

theorem rd_split (X : Vals F) (q : PosShare TreeShare) (n : ℕ) (d : Dev nD) :
    rd X q d ⊢ iprop(rd X (shareDrop q n) d ∗ bigSep Finset.univ fun i : Fin n => rd X (shareTok q n i) d) := by
  unfold rd
  rw [bigSep_sep', bigSep_sep', bigSep_sep', bigSep_sep']
  iintro ⟨H1, H2, H3, H4, H5⟩
  ihave K1 := (pointsTo_toks_split q n) $$ H1
  ihave K2 := (pointsTo_toks_split q n) $$ H2
  ihave K3 := (pointsTo_toks_split q n) $$ H3
  ihave K4 := (pointsTo_toks_split q n) $$ H4
  ihave K5 := (pointsTo_toks_split q n) $$ H5
  icases K1 with ⟨A1, B1⟩; icases K2 with ⟨A2, B2⟩; icases K3 with ⟨A3, B3⟩; icases K4 with ⟨A4, B4⟩; icases K5 with ⟨A5, B5⟩
  isplitl [A1 A2 A3 A4 A5]
  · isplitl [A1]; · iexact A1
    isplitl [A2]; · iexact A2
    isplitl [A3]; · iexact A3
    isplitl [A4]; · iexact A4
    iexact A5
  · isplitl [B1]; · iexact B1
    isplitl [B2]; · iexact B2
    isplitl [B3]; · iexact B3
    isplitl [B4]; · iexact B4
    iexact B5

theorem rd_join (X : Vals F) (q : PosShare TreeShare) (n : ℕ) (d : Dev nD) :
    iprop(rd X (shareDrop q n) d ∗ bigSep Finset.univ fun i : Fin n => rd X (shareTok q n i) d) ⊢ rd X q d := by
  unfold rd
  rw [bigSep_sep', bigSep_sep', bigSep_sep', bigSep_sep']
  iintro ⟨⟨A1, A2, A3, A4, A5⟩, B1, B2, B3, B4, B5⟩
  isplitl [A1 B1]
  · iapply (pointsTo_toks_join q n); isplitl [A1]; · iexact A1
    iexact B1
  isplitl [A2 B2]
  · iapply (pointsTo_toks_join q n); isplitl [A2]; · iexact A2
    iexact B2
  isplitl [A3 B3]
  · iapply (pointsTo_toks_join q n); isplitl [A3]; · iexact A3
    iexact B3
  isplitl [A4 B4]
  · iapply (pointsTo_toks_join q n); isplitl [A4]; · iexact A4
    iexact B4
  · iapply (pointsTo_toks_join q n); isplitl [A5]; · iexact A5
    iexact B5

/-- Subcore `i` of SparseCore `c` writes the positions of block `2 i + c`. -/
theorem mem_oSet (c : Fin 2) (i : Fin 16) (n : S1048576.Idx) : n ∈ oSet c i ↔ (n 0).val / 32768 = 2 * i.val + c.val := by
  have hs : oSet c i = (chunk (coordsV c i)).set := by
    show ((View.whole (main_v3_scv : Ref sig .scVector)).slice (chunk (coordsV c i))).set = _
    rw [View.set_slice]; exact Finset.map_refl
  rw [hs, Rect.mem_set_unit, k1_off1_eq, Fin.forall_fin_one]
  show (65536 * i.val + 32768 * c.val ≤ (n 0).val ∧ (n 0).val < 65536 * i.val + 32768 * c.val + 32768) ↔ _
  omega

theorem oSet_disjoint : ∀ p ∈ (Finset.univ : Finset (Fin 2 × Fin 16)), ∀ p' ∈ (Finset.univ : Finset (Fin 2 × Fin 16)), p ≠ p' →
    Disjoint (oSet p.1 p.2) (oSet p'.1 p'.2) := by
  intro p _ p' _ h
  refine Finset.disjoint_left.mpr fun n h1 h2 => h ?_
  rw [mem_oSet] at h1 h2
  have := p.1.isLt; have := p'.1.isLt
  exact Prod.ext (Fin.ext (by omega)) (Fin.ext (by omega))

theorem oSet_cover : (Finset.univ : Finset (Fin 2 × Fin 16)).biUnion (fun p => oSet p.1 p.2) = Finset.univ := by
  refine Finset.eq_univ_iff_forall.mpr fun n => Finset.mem_biUnion.mpr ?_
  have hn : (n 0).val < 1048576 := (n 0).isLt
  refine ⟨(⟨(n 0).val / 32768 % 2, by omega⟩, ⟨(n 0).val / 32768 / 2, by omega⟩), Finset.mem_univ _, (mem_oSet _ _ _).mpr ?_⟩
  show _ = 2 * ((n 0).val / 32768 / 2) + (n 0).val / 32768 % 2
  omega

/-- The whole result is its chunks. -/
theorem oPts_chunks (d : Dev nD) (f : Buf (Elt F) ((T d : Thread nD τ).loc main_v3)) :
    ((T d : Thread nD τ).loc main_v3 ↦{fullShare} f : sProp 𝕄) = bigSep Finset.univ fun c : Fin 2 => bigSep Finset.univ fun i : Fin 16 => oPts d c i f := by
  rw [← bigSep_univ_prod (fun p : Fin 2 × Fin 16 => oPts (F := F) d p.1 p.2 f)]
  unfold oPts
  rw [← pointsTo_biUnion Finset.univ (ℓ := (T d : Thread nD τ).loc main_v3) (fun p : Fin 2 × Fin 16 => oSet p.1 p.2) oSet_disjoint]
  exact congrArg (fun s => ((T d : Thread nD τ).loc main_v3 ↦[s]{fullShare} f : sProp 𝕄)) oSet_cover.symm

/-- Everything the call reads and writes, dealt to the two SparseCores. -/
theorem cores_split (X : Vals F) (d : Dev nD) (f : Buf (Elt F) ((T d : Thread nD τ).loc main_v3)) :
    iprop(rd X fullShare d ∗ ((T d : Thread nD τ).loc main_v3 ↦{fullShare} f))
      ⊢ iprop(rd X (shareDrop fullShare 2) d ∗ bigSep Finset.univ fun c : Fin 2 => corePart X d c f) := by
  unfold corePart
  rw [bigSep_sep', oPts_chunks]
  iintro ⟨Hr, Ho⟩
  ihave H := (rd_split X fullShare 2 d) $$ Hr
  icases H with ⟨A, B⟩
  isplitl [A]; · iexact A
  isplitl [B]; · iexact B
  iexact Ho

theorem cores_join (X : Vals F) (d : Dev nD) (f : Buf (Elt F) ((T d : Thread nD τ).loc main_v3)) :
    iprop(rd X (shareDrop fullShare 2) d ∗ bigSep Finset.univ fun c : Fin 2 => corePart X d c f)
      ⊢ iprop(rd X fullShare d ∗ ((T d : Thread nD τ).loc main_v3 ↦{fullShare} f)) := by
  unfold corePart
  rw [bigSep_sep', oPts_chunks]
  iintro ⟨A, B, Ho⟩
  isplitl [A B]
  · iapply (rd_join X fullShare 2 d)
    isplitl [A]; · iexact A
    iexact B
  iexact Ho

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's part is dealt to its subcores, and comes back with the result's values. -/
theorem vecSplit (X : Vals F) : (K (F := F)).VecSplit' (P X) 0 := by
  intro d c
  show corePart X d (Fin.cast nCore_zero c) (X.o d) ⊢ |={Set.univ}=> iprop(
      (bigSep Finset.univ fun i : Fin ((K (F := F)).nSub 0) => tilePart X d (Fin.cast nCore_zero c) (Fin.cast nSub_zero i) (X.o d))
      ∗ ((bigSep Finset.univ fun i : Fin ((K (F := F)).nSub 0) => tilePart X d (Fin.cast nCore_zero c) (Fin.cast nSub_zero i) (X.res d))
          -∗ corePart X d (Fin.cast nCore_zero c) (X.res d)))
  generalize (Fin.cast nCore_zero c : Fin 2) = c'
  rw [bigSep_tasks (F := F) (fun i => tilePart X d c' i (X.o d)), bigSep_tasks (F := F) (fun i => tilePart X d c' i (X.res d))]
  unfold corePart tilePart
  rw [bigSep_sep', bigSep_sep']
  iintro ⟨Hr, Ho⟩
  ihave H := (rd_split X (shC c') 16 d) $$ Hr
  icases H with ⟨A, B⟩
  imodintro
  isplitl [B Ho]
  · isplitl [B]; · iexact B
    iexact Ho
  iintro ⟨B, Ho⟩
  isplitl [A B]
  · iapply (rd_join X (shC c') 16 d)
    isplitl [A]; · iexact A
    iexact B
  iexact Ho

/-! ## The task meets the launch's obligation -/

section Body

variable (d : Dev nD) (L : grid1.Coords)

abbrev scell (s : DmaSems sig S_) : GSem nD τ sig := (VT d L, SemLoc.dma s.sem)

theorem ownSems0_V :
    (ownSems0 (VT d L) : sProp 𝕄)
      = iprop(semVal (scell d L cc1_scratch6) 0 ∗ semVal (scell d L cc1_scoped0) 0 ∗ semVal (scell d L cc1_scoped1) 0 ∗ semVal (scell d L cc1_scoped2) 0
          ∗ semVal (scell d L cc1_scoped3) 0 ∗ semVal (scell d L cc1_scoped4) 0
          ∗ bigSep ((((((( ownCells (VT d L)).erase (scell d L cc1_scratch6)).erase (scell d L cc1_scoped0)).erase (scell d L cc1_scoped1)).erase
              (scell d L cc1_scoped2)).erase (scell d L cc1_scoped3)).erase (scell d L cc1_scoped4)) fun g => semVal g 0) := by
  have hm : ∀ s : DmaSems sig S_, (SemLoc.dma s.sem : SemLoc sig).isScoped .scVector = true → scell d L s ∈ ownCells (VT d L) :=
    fun s h => (mem_ownCells (g := scell d L s)).mpr ⟨rfl, h⟩
  have hne : ∀ s t : DmaSems sig S_, s.sem ≠ t.sem → scell d L s ≠ scell d L t :=
    fun s t h e => h (SemLoc.dma.inj (Prod.mk.inj e).2)
  unfold SparseCore.Cfg.ownSems0
  rw [SparseCore.bigSep_erase' (hm cc1_scratch6 (by decide)),
    SparseCore.bigSep_erase' (i := scell d L cc1_scoped0) (by
      simp only [Finset.mem_erase]; exact ⟨hne _ _ (by decide), hm _ (by decide)⟩),
    SparseCore.bigSep_erase' (i := scell d L cc1_scoped1) (by
      simp only [Finset.mem_erase]; exact ⟨hne _ _ (by decide), hne _ _ (by decide), hm _ (by decide)⟩),
    SparseCore.bigSep_erase' (i := scell d L cc1_scoped2) (by
      simp only [Finset.mem_erase]; exact ⟨hne _ _ (by decide), hne _ _ (by decide), hne _ _ (by decide), hm _ (by decide)⟩),
    SparseCore.bigSep_erase' (i := scell d L cc1_scoped3) (by
      simp only [Finset.mem_erase]; exact ⟨hne _ _ (by decide), hne _ _ (by decide), hne _ _ (by decide), hne _ _ (by decide), hm _ (by decide)⟩),
    SparseCore.bigSep_erase' (i := scell d L cc1_scoped4) (by
      simp only [Finset.mem_erase]
      exact ⟨hne _ _ (by decide), hne _ _ (by decide), hne _ _ (by decide), hne _ _ (by decide), hne _ _ (by decide), hm _ (by decide)⟩)]

abbrev sref (b : Ref sig .scVector) : DevRef τ sig := (Proc.scVector (cV L) (jV L)).devRef b

/-- The task's six scratch buffers are among the subcore's own. -/
theorem ownBufs_V :
    (ownBufs (VT d L) : sProp 𝕄)
      = iprop((∃ f, (VT d L).loc cc1_scratch0 ↦{fullShare} f) ∗ (∃ f, (VT d L).loc cc1_scratch1 ↦{fullShare} f)
          ∗ (∃ f, (VT d L).loc cc1_scratch2 ↦{fullShare} f) ∗ (∃ f, (VT d L).loc cc1_scratch3 ↦{fullShare} f)
          ∗ (∃ f, (VT d L).loc cc1_scratch4 ↦{fullShare} f) ∗ (∃ f, (VT d L).loc cc1_scratch5 ↦{fullShare} f)
          ∗ bigSep (((((((ownRefs (τ := τ) (.scVector (cV L) (jV L))).erase (sref L cc1_scratch0)).erase (sref L cc1_scratch1)).erase
              (sref L cc1_scratch2)).erase (sref L cc1_scratch3)).erase (sref L cc1_scratch4)).erase (sref L cc1_scratch5))
              fun b => iprop(∃ f, ((d, b) : Loc nD τ sig) ↦{fullShare} f)) := by
  have hm : ∀ b : Ref sig .scVector, (sref L b).owner = .proc (.scVector (cV L) (jV L)) → sref L b ∈ ownRefs (τ := τ) (.scVector (cV L) (jV L)) :=
    fun b h => SparseCore.Cfg.mem_ownRefs_of_owner h
  have hne : ∀ b b' : Ref sig .scVector, b ≠ b' → sref L b ≠ sref L b' := fun b b' h e => h (Proc.devRef_injective _ e)
  unfold SparseCore.Cfg.ownBufs
  refine (SparseCore.bigSep_erase' (hm cc1_scratch0 rfl)).trans ?_
  rw [SparseCore.bigSep_erase' (i := sref L cc1_scratch1) (by
      simp only [Finset.mem_erase]; exact ⟨hne _ _ (by decide), hm _ rfl⟩),
    SparseCore.bigSep_erase' (i := sref L cc1_scratch2) (by
      simp only [Finset.mem_erase]; exact ⟨hne _ _ (by decide), hne _ _ (by decide), hm _ rfl⟩),
    SparseCore.bigSep_erase' (i := sref L cc1_scratch3) (by
      simp only [Finset.mem_erase]; exact ⟨hne _ _ (by decide), hne _ _ (by decide), hne _ _ (by decide), hm _ rfl⟩),
    SparseCore.bigSep_erase' (i := sref L cc1_scratch4) (by
      simp only [Finset.mem_erase]; exact ⟨hne _ _ (by decide), hne _ _ (by decide), hne _ _ (by decide), hne _ _ (by decide), hm _ rfl⟩),
    SparseCore.bigSep_erase' (i := sref L cc1_scratch5) (by
      simp only [Finset.mem_erase]
      exact ⟨hne _ _ (by decide), hne _ _ (by decide), hne _ _ (by decide), hne _ _ (by decide), hne _ _ (by decide), hm _ rfl⟩)]

/-- The task on subcore `(L 0, L 1)`, from the subcore's part of the call to the same with the result's values. -/
theorem tile_body (X : Vals F) (hF : (K (F := F)).Facts) (c : Fin 2) (i : Fin 16) (hL : L = coordsV c i)
    (O : CellTallies nD τ sig (HIx 1)) (W : Waits sig (HIx 1)) (hO : ∀ g, O g none = 0) :
    iprop(levAts (K (F := F)).L (K (F := F)).lev ∗ emp ∗ tilePart X d c i (X.o d)
        ∗ scopedBufs (VT d L) ∗ scopedSems0 (VT d L) ∗ owes (VT d L) O W)
      ⊢ wp frame (wpE (defs₀ (F := F)) 𝒱₀ (VT d L) none) Set.univ
          (cc1__sc_body L zW (Memref.isWhole_whole _) alW (Memref.isWhole_whole _) beW (Memref.isWhole_whole _) gaW (Memref.isWhole_whole _)
            acW (Memref.isWhole_whole _) oW (Memref.isWhole_whole _) sZ (Memref.isWhole_whole _) sO (Memref.isWhole_whole _) sA (Memref.isWhole_whole _)
            sB (Memref.isWhole_whole _) sG (Memref.isWhole_whole _) sC (Memref.isWhole_whole _) cc1_scratch6 cc1_scoped0 cc1_scoped1 cc1_scoped2 cc1_scoped3 cc1_scoped4)
          fun _ => iprop(tilePart X d c i (X.res d) ∗ scopedBufs (VT d L) ∗ scopedSems0 (VT d L)
            ∗ ∃ W', ⌜∀ p ∈ W', p ∈ W ∨ p.2 = none⌝ ∗ owes (VT d L) O W') := by
  subst hL
  rw [(K (F := F)).scopedBufs_V hF d _ _, SparseCore.Cfg.scopedSems0_V (Val := Elt F) d _ _]
  rw [show (ownSems0 (V d (cV (coordsV c i)) (jV (coordsV c i))) : sProp 𝕄) = ownSems0 (VT d (coordsV c i)) from rfl,
    show (ownBufs (V d (cV (coordsV c i)) (jV (coordsV c i))) : sProp 𝕄) = ownBufs (VT d (coordsV c i)) from rfl, ownSems0_V, ownBufs_V]
  unfold tilePart rd oPts
  iintro ⟨#Hlv, -, ⟨⟨Hz, Hal, Hbe, Hga, Hac⟩, Ho⟩, ⟨⟨%f8, H8⟩, ⟨%f9, H9⟩, ⟨%f10, H10⟩, ⟨%f11, H11⟩, ⟨%f12, H12⟩, ⟨%f13, H13⟩, Hbufs⟩,
    ⟨Hs6, Hs0, Hs1, Hs2, Hs3, Hs4, Hsems⟩, HO⟩
  ihave Hmw := ((K (F := F)).mayWaits_none (thr := VT d (coordsV c i)) hO) $$ Hlv
  ihave Hr := (tile_run d (coordsV c i) (shT c i) (X.z d) (X.al d) (X.be d) (X.ga d) (X.ac d) (X.o d) f8 f9 f10 f11 f12 f13 O W)
    $$ [Hmw Hz Hal Hbe Hga Hac Ho H8 H9 H10 H11 H12 H13 Hs6 Hs0 Hs1 Hs2 Hs3 Hs4 HO]
  · isplitl [Hmw]; · iexact Hmw
    isplitl [Hz]; · iexact Hz
    isplitl [Hal]; · iexact Hal
    isplitl [Hbe]; · iexact Hbe
    isplitl [Hga]; · iexact Hga
    isplitl [Hac]; · iexact Hac
    isplitl [Ho]; · iexact Ho
    isplitl [H8]; · iexact H8
    isplitl [H9]; · iexact H9
    isplitl [H10]; · iexact H10
    isplitl [H11]; · iexact H11
    isplitl [H12]; · iexact H12
    isplitl [H13]; · iexact H13
    isplitl [Hs6]; · iexact Hs6
    isplitl [Hs0]; · iexact Hs0
    isplitl [Hs1]; · iexact Hs1
    isplitl [Hs2]; · iexact Hs2
    isplitl [Hs3]; · iexact Hs3
    isplitl [Hs4]; · iexact Hs4
    iexact HO
  iapply (wp_wand_r frame _ _)
  isplitl [Hr]; · iexact Hr
  iintro %_ ⟨Hz, Hal, Hbe, Hga, Hac, Ho, H8, H9, H10, H11, H12, H13, Hs6, Hs0, Hs1, Hs2, Hs3, Hs4, HW⟩
  isplitl [Hz Hal Hbe Hga Hac Ho]
  · isplitl [Hz Hal Hbe Hga Hac]
    · isplitl [Hz]; · iexact Hz
      isplitl [Hal]; · iexact Hal
      isplitl [Hbe]; · iexact Hbe
      isplitl [Hga]; · iexact Hga
      iexact Hac
    · iexact Ho
  isplitl [H8 H9 H10 H11 H12 H13 Hbufs]
  · isplitl [H8]; · iexact H8
    isplitl [H9]; · iexact H9
    isplitl [H10]; · iexact H10
    isplitl [H11]; · iexact H11
    isplitl [H12]; · iexact H12
    isplitl [H13]; · iexact H13
    iexact Hbufs
  isplitl [Hs6 Hs0 Hs1 Hs2 Hs3 Hs4 Hsems]
  · isplitl [Hs6]; · iexact Hs6
    isplitl [Hs0]; · iexact Hs0
    isplitl [Hs1]; · iexact Hs1
    isplitl [Hs2]; · iexact Hs2
    isplitl [Hs3]; · iexact Hs3
    isplitl [Hs4]; · iexact Hs4
    iexact Hsems
  iexact HW

end Body

theorem defs₀_vector (c : Fin τ.nSC) (s : Fin τ.nSub) :
    defs₀ (F := F) (.scVector c s) 1 ()
      = SparseCore.onTile hcore1 hsub1 (fun c s => cc1__sc_body (coordsV c s) zW (Memref.isWhole_whole _) alW (Memref.isWhole_whole _)
          beW (Memref.isWhole_whole _) gaW (Memref.isWhole_whole _) acW (Memref.isWhole_whole _) oW (Memref.isWhole_whole _)
          sZ (Memref.isWhole_whole _) sO (Memref.isWhole_whole _) sA (Memref.isWhole_whole _) sB (Memref.isWhole_whole _) sG (Memref.isWhole_whole _)
          sC (Memref.isWhole_whole _) cc1_scratch6 cc1_scoped0 cc1_scoped1 cc1_scoped2 cc1_scoped3 cc1_scoped4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every subcore's task takes its part of the call to the same with the result's values. -/
theorem tileObl (X : Vals F) (hF : (K (F := F)).Facts) : (K (F := F)).TileObl (D (F := F)) 𝒱 (P X) v₀ 0 := by
  intro d c i O W hO _ _
  simp only [show (P X).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body d (coordsV ⟨_, hc.1⟩ ⟨_, hc.2⟩) X hF (Fin.cast nCore_zero c) (Fin.cast nSub_zero i) rfl O W hO).trans
    (wp_mono frame _ _ fun _ => obl_post)

end Cert.Proof.Mix
-- ==== Proof.Region.lean ====
/-
  The TensorCore call: its body run by the executor, with the four arrays that it leaves named by the printed payloads.
-/
module

public import proofs.«01_k».proof.Proof.Base
public import proofs.«01_k».proof.Proof.Gen.KernelIdeal.Launch
public import proofs.«01_k».proof.Proof.Gen.KernelIdeal.Points
public import Idealize.ShloMosaic.Lib.Pipeline.RegionsLoop
public import Idealize.ShloMosaic.Lib.LaneScatter.Tiles

@[expose] public section

noncomputable section

namespace Cert.Proof.Mix

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

/-- Memref `M`'s buffer on core `c`, held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

local notation "W0" => (Memref.whole cc0_stg0_0)
local notation "W1" => (Memref.whole cc0_stg1_0)
local notation "W2" => (Memref.whole cc0_stg2_0)
local notation "W3" => (Memref.whole cc0_stg3_0)
local notation "W4" => (Memref.whole cc0_stg4_0)
local notation "W5" => (Memref.whole cc0_stg5_0)
local notation "W6" => (Memref.whole cc0_stg6_0)

/-- The all-covering store at the origin leaves what it stores; -/
theorem store_all {sp : Space} {s : Shape} {e : EltTy} (v : View sig .tc sp s e) (f : v.ty.Contents (Elt F)) {off : Fin s.rank → ℕ} (h : ∀ a, off a = 0)
    (inb : ∀ a, off a + s.size a ≤ s.size a) (w : s.Idx → Elt F e) :
    v.read (Elt F) (v.writes (Elt F) f [⟨Rect.unit off s.size inb, w⟩]) = w :=
  LaneScatter.read_whole_store v f h inb w

/-- and the all-covering load at the origin reads the array. -/
theorem load_all {b : Ref sig .tc} {s : Shape} {e : EltTy} (v : View sig .tc b.space s e) (f : v.ty.Contents (Elt F)) {off : Fin s.rank → ℕ} (h : ∀ a, off a = 0)
    (inb : ∀ a, off a + s.size a ≤ s.size a) :
    View.readAt (Elt F) v (Rect.unit off s.size inb).toLoadRect f = v.read (Elt F) f := by
  funext y
  have hy : (Rect.unit off s.size inb).emb y = y := by
    funext a; apply Fin.ext
    show off a + 1 * (y a).val = (y a).val
    rw [h a]; omega
  show v.read (Elt F) f ((Rect.unit off s.size inb).emb y) = _
  rw [hy]

theorem origin2 {d : Fin 2 → ℕ} (h : d = ![0, 0]) : ∀ a, d a = 0 := by
  subst h; intro a; fin_cases a <;> rfl

/-- The body from its seven staging buffers: the inputs unchanged, the outputs at the payloads. -/
theorem prep_run (c : Dev nD) (f0 : Vec F S1x16 .f32) (f1 f2 f3 f4 f5 : Vec F S16x64 .f32) (f6 : Vec F S1x64 .f32) (Q : PUnit → sProp 𝕄) :
    iprop(pt c W0 f0 ∗ pt c W1 f1 ∗ pt c W2 f2 ∗ pt c W3 f3 ∗ pt c W4 f4 ∗ pt c W5 f5
        ∗ pt c W6 f6
        ∗ (iprop(pt c W0 f0 ∗ pt c W1 f1 ∗ pt c W2 f2 ∗ pt c W3 (k0_pay5 f0 f2 f1)
            ∗ pt c W4 (k0_pay6 f2 f1) ∗ pt c W5 (k0_pay2 f2) ∗ pt c W6 (k0_pay1 (k0_pay4 f0 f2))) -∗ Q ⟨⟩))
      ⊢ wp frame (wpE (defs₀ (F := F)) Variants.none c none) Set.univ
        (cc0__prep_body W0 (hstage0_0 0) W1 (hstage0_1 0) W2 (hstage0_2 0) W3 (hstage0_3 0) W4 (hstage0_4 0) W5 (hstage0_5 0) W6 (hstage0_6 0)) Q := by
  rw [cc0__prep_body_eq_skeleton]
  unfold cc0__prep_body_skel
  rw [k0_part1_eq_skeleton]
  iintro ⟨H0, H1, H2, H3, H4, H5, H6, Hk⟩
  sl_exec!
  have h0 : View.readAt (Elt F) (W0).view (Rect.unit ![0, 0] S1x16.size inb_S1x16_S1x16_0_0).toLoadRect f0 = f0 := load_all (b := cc0_stg0_0) (W0).view f0 (origin2 rfl) _
  have h1 : View.readAt (Elt F) (W1).view (Rect.unit ![0, 0] S16x64.size inb_S16x64_S16x64_0_0).toLoadRect f1 = f1 := load_all (b := cc0_stg1_0) (W1).view f1 (origin2 rfl) _
  have h2 : View.readAt (Elt F) (W2).view (Rect.unit ![0, 0] S16x64.size inb_S16x64_S16x64_0_0).toLoadRect f2 = f2 := load_all (b := cc0_stg2_0) (W2).view f2 (origin2 rfl) _
  have e3 : (W3).view.writes (Elt F) (W3).view.junk (prep_run.sl.H3_1 f0 f1 f2) = k0_pay5 f0 f2 f1 := by
    exact (store_all (F := F) (W3).view (W3).view.junk (off := ![0, 0]) (origin2 rfl) inb_S16x64_S16x64_0_0 _).trans (congr (congr (congrArg (k0_pay5 (F := F)) h0) h2) h1)
  have e4 : (W4).view.writes (Elt F) (W4).view.junk (prep_run.sl.H4_1 f1 f2) = k0_pay6 f2 f1 := by
    exact (store_all (F := F) (W4).view (W4).view.junk (off := ![0, 0]) (origin2 rfl) inb_S16x64_S16x64_0_0 _).trans (congr (congrArg (k0_pay6 (F := F)) h2) h1)
  have e5 : (W5).view.writes (Elt F) (W5).view.junk (prep_run.sl.H5_1 f2) = k0_pay2 f2 := by
    exact (store_all (F := F) (W5).view (W5).view.junk (off := ![0, 0]) (origin2 rfl) inb_S16x64_S16x64_0_0 _).trans (congrArg (k0_pay2 (F := F)) h2)
  have h4 := congr (congrArg (k0_pay4 (F := F)) h0) h2
  have e6 : (W6).view.writes (Elt F) (W6).view.junk (prep_run.sl.H6_1 f0 f2) = k0_pay1 (k0_pay4 f0 f2) := by
    exact (store_all (F := F) (W6).view (W6).view.junk (off := ![0, 0]) (origin2 rfl) inb_S1x64_S1x64_0_0 _).trans (congrArg (k0_pay1 (F := F)) h4)
  rw [e3, e4, e5, e6]
  sl_step
  iapply Hk
  isplitl [H0]; · iexact H0
  isplitl [H1]; · iexact H1
  isplitl [H2]; · iexact H2
  isplitl [H3]; · iexact H3
  isplitl [H4]; · iexact H4
  isplitl [H5]; · iexact H5
  iexact H6

/-! ## The call's proof data, at an entry valuation -/

variable (V : (c : Dev nD) → (b : Ref sig .tc) → Buf (Elt F) ((c : Thread nD τ).loc b))

/-- The call's four results, from the arrays at entry. -/
abbrev rAl (c : Dev nD) : Vec F S16x64 .f32 := k0_pay5 (V c main_v0) (V c main_arg2) (V c main_arg1)
abbrev rBe (c : Dev nD) : Vec F S16x64 .f32 := k0_pay6 (V c main_arg2) (V c main_arg1)
abbrev rGa (c : Dev nD) : Vec F S16x64 .f32 := k0_pay2 (V c main_arg2)
abbrev rAc (c : Dev nD) : Vec F S1x64 .f32 := k0_pay1 (k0_pay4 (V c main_v0) (V c main_arg2))

/-- The recorded waits that lie below the TensorCore's first SparseCore call. -/
abbrev below (c : Dev nD) : Set (SemLoc sig × HIx 1) := {p | (K (F := F)).lev ((c : Thread nD τ), p.1) p.2 ≤ 0}

/-- The arrays at `V`; the staged inputs at theirs and the outputs at the payloads; throughout, the core owes the start
    signals of the SparseCore call that follows. -/
def dat (c : Dev nD) : Dat τ (Elt F) (HIx 1) ℕ UU ℕ cfg0 c where
  A w := V c (Pipeline.arrRef spec0 w)
  after w _ := match w with
    | ⟨0, _⟩ => V c main_v0
    | ⟨1, _⟩ => V c main_arg1
    | ⟨2, _⟩ => V c main_arg2
    | ⟨3, _⟩ => rAl V c
    | ⟨4, _⟩ => rBe V c
    | ⟨5, _⟩ => rGa V c
    | ⟨6, _⟩ => rAc V c
  Φ _ := Pipeline.scopedRest (Ix := HIx 1) (Name := ℕ) (U := UU) (Lvl := ℕ) (Val := Elt F) spec0 c
  q _ := fullShare
  owed _ := (K (F := F)).Otc c 0
  recorded _ := below (F := F) c

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat V c

/-- A window's only block is its whole array: the block's embedding is the identity. -/
theorem emb0 (y : S1x16.Idx) : ((cfg0.win 0).blk t0_0).view.emb y = y := by
  funext a; exact Fin.ext ((show (((cfg0.win 0).blk t0_0).view.emb y a).val = 0 * S1x16.size a + 1 * (y a).val from rfl).trans (by rw [Nat.zero_mul, Nat.one_mul, Nat.zero_add]))
theorem emb1 (y : S16x64.Idx) : ((cfg0.win 1).blk t0_0).view.emb y = y := by
  funext a; exact Fin.ext ((show (((cfg0.win 1).blk t0_0).view.emb y a).val = 0 * S16x64.size a + 1 * (y a).val from rfl).trans (by rw [Nat.zero_mul, Nat.one_mul, Nat.zero_add]))
theorem emb2 (y : S16x64.Idx) : ((cfg0.win 2).blk t0_0).view.emb y = y := by
  funext a; exact Fin.ext ((show (((cfg0.win 2).blk t0_0).view.emb y a).val = 0 * S16x64.size a + 1 * (y a).val from rfl).trans (by rw [Nat.zero_mul, Nat.one_mul, Nat.zero_add]))
theorem emb3 (y : S16x64.Idx) : ((cfg0.win 3).blk t0_0).view.emb y = y := by
  funext a; exact Fin.ext ((show (((cfg0.win 3).blk t0_0).view.emb y a).val = 0 * S16x64.size a + 1 * (y a).val from rfl).trans (by rw [Nat.zero_mul, Nat.one_mul, Nat.zero_add]))
theorem emb4 (y : S16x64.Idx) : ((cfg0.win 4).blk t0_0).view.emb y = y := by
  funext a; exact Fin.ext ((show (((cfg0.win 4).blk t0_0).view.emb y a).val = 0 * S16x64.size a + 1 * (y a).val from rfl).trans (by rw [Nat.zero_mul, Nat.one_mul, Nat.zero_add]))
theorem emb5 (y : S16x64.Idx) : ((cfg0.win 5).blk t0_0).view.emb y = y := by
  funext a; exact Fin.ext ((show (((cfg0.win 5).blk t0_0).view.emb y a).val = 0 * S16x64.size a + 1 * (y a).val from rfl).trans (by rw [Nat.zero_mul, Nat.one_mul, Nat.zero_add]))
theorem emb6 (y : S1x64.Idx) : ((cfg0.win 6).blk t0_0).view.emb y = y := by
  funext a; exact Fin.ext ((show (((cfg0.win 6).blk t0_0).view.emb y a).val = 0 * S1x64.size a + 1 * (y a).val from rfl).trans (by rw [Nat.zero_mul, Nat.one_mul, Nat.zero_add]))

/-- The staged inputs are the arrays at entry, -/
theorem before0 (c : Dev nD) (d) : (dat V c).before 0 t0_0 d = V c main_v0 := by
  unfold Dat.before; rw [if_pos (fetch0_0 _)]
  refine (show (dat V c).fetched 0 t0_0 d = ((cfg0.win 0).blk t0_0).view.read (Elt F) (V c main_v0) from rfl).trans ?_
  funext y; exact congrArg (V c main_v0) (emb0 y)
theorem before1 (c : Dev nD) (d) : (dat V c).before 1 t0_0 d = V c main_arg1 := by
  unfold Dat.before; rw [if_pos (fetch0_1 _)]
  refine (show (dat V c).fetched 1 t0_0 d = ((cfg0.win 1).blk t0_0).view.read (Elt F) (V c main_arg1) from rfl).trans ?_
  funext y; exact congrArg (V c main_arg1) (emb1 y)
theorem before2 (c : Dev nD) (d) : (dat V c).before 2 t0_0 d = V c main_arg2 := by
  unfold Dat.before; rw [if_pos (fetch0_2 _)]
  refine (show (dat V c).fetched 2 t0_0 d = ((cfg0.win 2).blk t0_0).view.read (Elt F) (V c main_arg2) from rfl).trans ?_
  funext y; exact congrArg (V c main_arg2) (emb2 y)

/-- and the result arrays after the call are the payloads. -/
theorem arrAt3 (c : Dev nD) : (dat V c).arrAt 3 cfg0.N = rAl V c := by
  refine (show (dat V c).arrAt 3 cfg0.N = ((cfg0.win 3).blk t0_0).view.write (Elt F) (V c main_v1_0) (rAl V c) Finset.univ from rfl).trans ?_
  funext i; exact (congrArg _ (emb3 i).symm).trans (View.write_emb_of_mem (v := ((cfg0.win 3).blk t0_0).view) (V c main_v1_0) (rAl V c) (Finset.mem_univ i))
theorem arrAt4 (c : Dev nD) : (dat V c).arrAt 4 cfg0.N = rBe V c := by
  refine (show (dat V c).arrAt 4 cfg0.N = ((cfg0.win 4).blk t0_0).view.write (Elt F) (V c main_v1_1) (rBe V c) Finset.univ from rfl).trans ?_
  funext i; exact (congrArg _ (emb4 i).symm).trans (View.write_emb_of_mem (v := ((cfg0.win 4).blk t0_0).view) (V c main_v1_1) (rBe V c) (Finset.mem_univ i))
theorem arrAt5 (c : Dev nD) : (dat V c).arrAt 5 cfg0.N = rGa V c := by
  refine (show (dat V c).arrAt 5 cfg0.N = ((cfg0.win 5).blk t0_0).view.write (Elt F) (V c main_v1_2) (rGa V c) Finset.univ from rfl).trans ?_
  funext i; exact (congrArg _ (emb5 i).symm).trans (View.write_emb_of_mem (v := ((cfg0.win 5).blk t0_0).view) (V c main_v1_2) (rGa V c) (Finset.mem_univ i))
theorem arrAt6 (c : Dev nD) : (dat V c).arrAt 6 cfg0.N = rAc V c := by
  refine (show (dat V c).arrAt 6 cfg0.N = ((cfg0.win 6).blk t0_0).view.write (Elt F) (V c main_v1_3) (rAc V c) Finset.univ from rfl).trans ?_
  funext i; exact (congrArg _ (emb6 i).symm).trans (View.write_emb_of_mem (v := ((cfg0.win 6).blk t0_0).view) (V c main_v1_3) (rAc V c) (Finset.mem_univ i))

/-- The body's obligation: the staging buffers taken apart, the run, the staging buffers put back. -/
theorem body_obligation (c : Dev nD) : BodyObligation (dat V c) (defs₀ (F := F)) 𝒱₀ (none : HIx 1) Set.univ := fun t => by
  obtain rfl := fin_N0 t
  rw [bigSep_W0, bigSep_W0]
  simp only [owns_whole_eq]
  rw [show (dat V c).Φ t0_0.castSucc = (dat V c).Φ t0_0.succ from rfl,
    show (dat V c).owesAt none t0_0.succ = (dat V c).owesAt none t0_0.castSucc from rfl]
  iintro ⟨HΦ, Howes, ⟨%d0, %f0, %h0, H0⟩, ⟨%d1, %f1, %h1, H1⟩, ⟨%d2, %f2, %h2, H2⟩, ⟨%d3, %f3, -, H3⟩, ⟨%d4, %f4, -, H4⟩, ⟨%d5, %f5, -, H5⟩, ⟨%d6, %f6, -, H6⟩⟩
  rw [before0] at h0
  rw [before1] at h1
  rw [before2] at h2
  subst h0 h1 h2
  iapply (prep_run c (V c main_v0) (V c main_arg1) (V c main_arg2) f3 f4 f5 f6 _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  isplitl [H4]; · iexists _; isplitr; swap; (· iexact H4); ipureintro; dsimp only [dat]
  isplitl [H5]; · iexists _; isplitr; swap; (· iexact H5); ipureintro; dsimp only [dat]
  iexists _; isplitr; swap; (· iexact H6); ipureintro; dsimp only [dat]

/-! ## The region over the thread state -/

/-- The start signals that the TensorCore owes are at the calls' indices, none at the kernels' own. -/
theorem Otc_none (d : Dev nD) (n : ℕ) (g : GSem nD τ sig) : (K (F := F)).Otc (N := 1) d n g none = 0 := by
  by_contra h
  have := (K (F := F)).lev_of_Otc_pos (Nat.pos_of_ne_zero h)
  rw [SparseCore.Cfg.lev_none] at this
  omega

variable (Vp : (c : Dev nD) → (b : Ref sig .tc) → Buf (Elt F) ((c : Thread nD τ).loc b))

set_option backward.isDefEq.respectTransparency.types false in
/-- The call's region, from every unscoped array at `V` to every one at `Vp`, which has the results at the payloads and
    the rest as they were. -/
def reg (h0 : ∀ c, Vp c main_v1_0 = rAl V c) (h1 : ∀ c, Vp c main_v1_1 = rBe V c) (h2 : ∀ c, Vp c main_v1_2 = rGa V c) (h3 : ∀ c, Vp c main_v1_3 = rAc V c)
    (hne : ∀ c (b : Ref sig .tc), b ≠ main_v1_0 → b ≠ main_v1_1 → b ≠ main_v1_2 → b ≠ main_v1_3 → Vp c b = V c b) :
    Pipeline.RegionSeg (pcfgs (F := F)) adm (pdats V) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_intro _ _ _ _ _ fun w s t => (K (F := F)).mayWait_none _ (Otc_none c 0)
  pre c := iprop(unscopedBufs c (V c) ∗ ∃ W, ⌜(K (F := F)).WBelow (T c) W 0⌝ ∗ owes (T c) ((K (F := F)).Otc c 0) W)
  post c := iprop(unscopedBufs c (Vp c) ∗ ∃ W, ⌜(K (F := F)).WBelow (T c) W 0⌝ ∗ owes (T c) ((K (F := F)).Otc c 0) W)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V) launch0.win launch0.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats V 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats V) ((pdats V 0 c).share_full fun _ => rfl) (V c) (Vp c) ((pdats V 0 c).arrAt · cfg0.N)
      (fun w => by
        fin_cases w
        · exact ((pdats V 0 c).arrAt_in 0 rfl _).trans (hne c main_v0 (by decide) (by decide) (by decide) (by decide)).symm
        · exact ((pdats V 0 c).arrAt_in 1 rfl _).trans (hne c main_arg1 (by decide) (by decide) (by decide) (by decide)).symm
        · exact ((pdats V 0 c).arrAt_in 2 rfl _).trans (hne c main_arg2 (by decide) (by decide) (by decide) (by decide)).symm
        · exact (arrAt3 V c).trans (h0 c).symm
        · exact (arrAt4 V c).trans (h1 c).symm
        · exact (arrAt5 V c).trans (h2 c).symm
        · exact (arrAt6 V c).trans (h3 c).symm)
      (fun b hb => hne c b (fun h => hb (h ▸ Finset.mem_image.mpr ⟨3, Finset.mem_univ _, rfl⟩)) (fun h => hb (h ▸ Finset.mem_image.mpr ⟨4, Finset.mem_univ _, rfl⟩))
        (fun h => hb (h ▸ Finset.mem_image.mpr ⟨5, Finset.mem_univ _, rfl⟩)) (fun h => hb (h ▸ Finset.mem_image.mpr ⟨6, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | h
      · exact h
      · obtain ⟨w, s, rfl⟩ := h
        exact le_of_eq ((K (F := F)).lev_none _)
    iexact HO

end Cert.Proof.Mix
-- ==== Proof.Run.lean ====
/-
  The launch of the whole kernel: its reshapes, the TensorCore call and the SparseCore call, with the values of every
  array. The run ends with the result at `outVal`, the arguments unchanged and every counter at zero.
-/
module

public import proofs.«01_k».proof.Proof.Task
public import proofs.«01_k».proof.Proof.Region

@[expose] public section

noncomputable section

namespace Cert.Proof.Mix

open Cert.KernelIdeal Cert.KernelIdeal.Gen

open Idealize.ShloMosaic Idealize.ShloMosaic.TcCoe
open Idealize.ShloMosaic.StableHlo (held wp_hlo_within held_sub_split)
open Idealize.ShloMosaic.SparseCore (S V T)
open Idealize.ShloMosaic.SparseCore.Cfg (HIx Pay)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellsGhost toksInit pin)

variable {F : FTy → Type} [FloatOps F] [Named F]

local notation "𝕄" => MT nD τ sig (HIx 1) (Elt F) ℕ UU ℕ

/-- A TensorCore reference as a buffer of its device. -/
abbrev dr (b : Ref sig .tc) : DevRef τ sig := Proc.devRef (τ := τ) .tc b

/-! ## The contents along @main -/

abbrev opW : HloOp τ sig (Elt F) := StableHlo.reshape main_arg3 main_v0 (rfl : (.f32 : EltTy) = .f32) shapeCasts_S16x1x1_S1x16
abbrev opZ : HloOp τ sig (Elt F) := StableHlo.reshape main_arg0 main_v2 (rfl : (.f32 : EltTy) = .f32) shapeCasts_S16384x64_S1048576
abbrev opO : HloOp τ sig (Elt F) := StableHlo.reshape main_v3 main_v4 (rfl : (.f32 : EltTy) = .f32) shapeCasts_S1048576_S16384x64

section Contents

variable (m : (ℓ : Loc nD τ sig) → Buf (Elt F) ℓ)

def U0 (d : Dev nD) : Valuation τ sig (Elt F) := fun b => m (d, b)
def U1 (d : Dev nD) : Valuation τ sig (Elt F) := (opW (F := F)).result (U0 m d)
/-- The TensorCore call's arrays as it finds them. -/
def VR (d : Dev nD) (b : Ref sig .tc) : Buf (Elt F) ((d : Thread nD τ).loc b) := U1 m d (dr b)
/-- After the TensorCore call: its four results. -/
def U2 (d : Dev nD) : Valuation τ sig (Elt F) :=
  Function.update (Function.update (Function.update (Function.update (U1 m d) (dr main_v1_0) (rAl (VR m) d)) (dr main_v1_1) (rBe (VR m) d))
    (dr main_v1_2) (rGa (VR m) d)) (dr main_v1_3) (rAc (VR m) d)
def U3 (d : Dev nD) : Valuation τ sig (Elt F) := (opZ (F := F)).result (U2 m d)

/-- What the SparseCore call reads, and what its result's array holds before. -/
def vals : Vals F where
  z d := U3 m d (dr main_v2)
  al d := rAl (VR m) d
  be d := rBe (VR m) d
  ga d := rGa (VR m) d
  ac d := rAc (VR m) d
  o d := U3 m d (dr main_v3)

/-- After the SparseCore call. -/
def U4 (d : Dev nD) : Valuation τ sig (Elt F) := Function.update (U3 m d) (dr main_v3) ((vals m).res d)
def U5 (d : Dev nD) : Valuation τ sig (Elt F) := (opO (F := F)).result (U4 m d)

theorem U2_ne (d : Dev nD) (b : Ref sig .tc) (h0 : b ≠ main_v1_0) (h1 : b ≠ main_v1_1) (h2 : b ≠ main_v1_2) (h3 : b ≠ main_v1_3) :
    U2 m d (dr b) = U1 m d (dr b) := by
  unfold U2
  rw [Function.update_of_ne (StableHlo.devRef_ne_of_ne h3), Function.update_of_ne (StableHlo.devRef_ne_of_ne h2),
    Function.update_of_ne (StableHlo.devRef_ne_of_ne h1), Function.update_of_ne (StableHlo.devRef_ne_of_ne h0)]
theorem U2_3 (d : Dev nD) : U2 m d (dr main_v1_3) = rAc (VR m) d := Function.update_self _ _ _
theorem U2_2 (d : Dev nD) : U2 m d (dr main_v1_2) = rGa (VR m) d := by
  unfold U2
  rw [Function.update_of_ne (StableHlo.devRef_ne_of_ne (by decide)), Function.update_self]
theorem U2_1 (d : Dev nD) : U2 m d (dr main_v1_1) = rBe (VR m) d := by
  unfold U2
  rw [Function.update_of_ne (StableHlo.devRef_ne_of_ne (by decide)), Function.update_of_ne (StableHlo.devRef_ne_of_ne (by decide)), Function.update_self]
theorem U2_0 (d : Dev nD) : U2 m d (dr main_v1_0) = rAl (VR m) d := by
  unfold U2
  rw [Function.update_of_ne (StableHlo.devRef_ne_of_ne (by decide)), Function.update_of_ne (StableHlo.devRef_ne_of_ne (by decide)),
    Function.update_of_ne (StableHlo.devRef_ne_of_ne (by decide)), Function.update_self]

theorem U1_ne (d : Dev nD) (b : Ref sig .tc) (h : b ≠ main_v0) : U1 m d (dr b) = m (d, dr b) :=
  StableHlo.reshape_result_ne _ _ _ _ _ _ _ h
theorem U3_ne (d : Dev nD) (b : Ref sig .tc) (h : b ≠ main_v2) : U3 m d (dr b) = U2 m d (dr b) :=
  StableHlo.reshape_result_ne _ _ _ _ _ _ _ h
theorem U4_ne (d : Dev nD) (b : Ref sig .tc) (h : b ≠ main_v3) : U4 m d (dr b) = U3 m d (dr b) :=
  Function.update_of_ne (StableHlo.devRef_ne_of_ne h) _ _
theorem U5_ne (d : Dev nD) (b : Ref sig .tc) (h : b ≠ main_v4) : U5 m d (dr b) = U4 m d (dr b) :=
  StableHlo.reshape_result_ne _ _ _ _ _ _ _ h

/-- An array that nothing writes keeps its contents at launch. -/
theorem U5_arg (d : Dev nD) (b : Ref sig .tc) (h0 : b ≠ main_v0) (h1 : b ≠ main_v1_0) (h2 : b ≠ main_v1_1) (h3 : b ≠ main_v1_2) (h4 : b ≠ main_v1_3)
    (h5 : b ≠ main_v2) (h6 : b ≠ main_v3) (h7 : b ≠ main_v4) : U5 m d (dr b) = m (d, dr b) :=
  (U5_ne m d b h7).trans ((U4_ne m d b h6).trans ((U3_ne m d b h5).trans ((U2_ne m d b h1 h2 h3 h4).trans (U1_ne m d b h0))))

end Contents

/-- The kernel's result as a function of its arguments. -/
def outVal (z : S16384x64.Idx → Elt F .f32) (mus lv : S16x64.Idx → Elt F .f32) (w : S16x1x1.Idx → Elt F .f32) : S16384x64.Idx → Elt F .f32 :=
  shapeCast S16384x64 (gOut (shapeCast S1048576 z shapeCasts_S16384x64_S1048576)
      (k0_pay5 (shapeCast S1x16 w shapeCasts_S16x1x1_S1x16) lv mus) (k0_pay6 lv mus) (k0_pay2 lv)
      (k0_pay1 (k0_pay4 (shapeCast S1x16 w shapeCasts_S16x1x1_S1x16) lv))) shapeCasts_S1048576_S16384x64

theorem U5_out (m : (ℓ : Loc nD τ sig) → Buf (Elt F) ℓ) (d : Dev nD) :
    U5 m d (dr main_v4) = outVal (m (d, dr main_arg0)) (m (d, dr main_arg1)) (m (d, dr main_arg2)) (m (d, dr main_arg3)) := by
  have hw : VR m d main_v0 = shapeCast S1x16 (m (d, dr main_arg3)) shapeCasts_S16x1x1_S1x16 := by
    unfold VR U1
    refine (StableHlo.reshape_result _ _ _ _ _ _ _).trans ?_
    rfl
  have hmu : VR m d main_arg1 = m (d, dr main_arg1) := U1_ne m d main_arg1 (by decide)
  have hlv : VR m d main_arg2 = m (d, dr main_arg2) := U1_ne m d main_arg2 (by decide)
  have hz : U3 m d (dr main_v2) = shapeCast S1048576 (m (d, dr main_arg0)) shapeCasts_S16384x64_S1048576 :=
    (StableHlo.reshape_result _ _ _ _ _ _ _).trans (by
      rw [U2_ne m d main_arg0 (by decide) (by decide) (by decide) (by decide), U1_ne m d main_arg0 (by decide)]
      rfl)
  refine (StableHlo.reshape_result _ _ _ _ _ _ _).trans ?_
  unfold outVal
  rw [← hw, ← hz, ← hmu, ← hlv]
  rw [show U4 m d (dr main_v3) = (vals m).res d from Function.update_self _ _ _]
  rfl

/-! ## @main -/

/-- The TensorCore's arrays: those that outlive a kernel. -/
abbrev arrs : Finset (DevRef τ sig) := (StableHlo.tcRefs τ sig).filter fun b => ¬ b.isScoped

theorem unscoped_held (d : Dev nD) (W : Valuation τ sig (Elt F)) :
    (unscopedBufs d (fun b => W (dr b)) : sProp 𝕄) = held (SparseCore.T d) arrs W := by
  unfold unscopedBufs StableHlo.held arrs StableHlo.tcRefs
  rw [Finset.filter_map, bigSep_map]
  rfl

/-- The arrays of the SparseCore call. -/
abbrev callArrs : Finset (DevRef τ sig) :=
  {dr main_v2, dr main_v1_0, dr main_v1_1, dr main_v1_2, dr main_v1_3, dr main_v3}

theorem dr_mem_arrs (b : Ref sig .tc) (h : (dr b).isScoped = false) : dr b ∈ arrs :=
  Finset.mem_filter.mpr ⟨StableHlo.devRef_mem_tcRefs b, by rw [h]; decide⟩

theorem callArrs_sub : callArrs ⊆ arrs := by
  intro b hb
  simp only [callArrs, Finset.mem_insert, Finset.mem_singleton] at hb
  rcases hb with rfl | rfl | rfl | rfl | rfl | rfl <;> exact dr_mem_arrs _ rfl

theorem held_call (d : Dev nD) (W : Valuation τ sig (Elt F)) :
    (held (SparseCore.T d) callArrs W : sProp 𝕄)
      = iprop(((SparseCore.T d : Thread nD τ).loc main_v2 ↦{fullShare} W (dr main_v2)) ∗ ((SparseCore.T d : Thread nD τ).loc main_v1_0 ↦{fullShare} W (dr main_v1_0))
          ∗ ((SparseCore.T d : Thread nD τ).loc main_v1_1 ↦{fullShare} W (dr main_v1_1)) ∗ ((SparseCore.T d : Thread nD τ).loc main_v1_2 ↦{fullShare} W (dr main_v1_2))
          ∗ ((SparseCore.T d : Thread nD τ).loc main_v1_3 ↦{fullShare} W (dr main_v1_3)) ∗ ((SparseCore.T d : Thread nD τ).loc main_v3 ↦{fullShare} W (dr main_v3))) := by
  unfold StableHlo.held callArrs
  rw [SparseCore.bigSep_insert' (by decide), SparseCore.bigSep_insert' (by decide), SparseCore.bigSep_insert' (by decide),
    SparseCore.bigSep_insert' (by decide), SparseCore.bigSep_insert' (by decide), bigSep_singleton]

section Main

variable (m : (ℓ : Loc nD τ sig) → Buf (Elt F) ℓ) (ρ : Dev nD → PrngReg)

theorem held_before (d : Dev nD) :
    (held (SparseCore.T d) callArrs (U3 m d) : sProp 𝕄)
      ⊢ iprop(rd (vals m) fullShare d ∗ ((SparseCore.T d : Thread nD τ).loc main_v3 ↦{fullShare} (vals m).o d)) := by
  rw [held_call, U3_ne m d main_v1_0 (by decide), U3_ne m d main_v1_1 (by decide), U3_ne m d main_v1_2 (by decide), U3_ne m d main_v1_3 (by decide),
    U2_0, U2_1, U2_2, U2_3]
  unfold rd
  iintro ⟨H1, H2, H3, H4, H5, H6⟩
  isplitr [H6]
  · isplitl [H1]; · iexact H1
    isplitl [H2]; · iexact H2
    isplitl [H3]; · iexact H3
    isplitl [H4]; · iexact H4
    iexact H5
  iexact H6

theorem held_after (d : Dev nD) :
    iprop(rd (vals m) fullShare d ∗ ((SparseCore.T d : Thread nD τ).loc main_v3 ↦{fullShare} (vals m).res d))
      ⊢ (held (SparseCore.T d) callArrs (U4 m d) : sProp 𝕄) := by
  rw [held_call, U4_ne m d main_v1_0 (by decide), U4_ne m d main_v1_1 (by decide), U4_ne m d main_v1_2 (by decide), U4_ne m d main_v1_3 (by decide),
    U4_ne m d main_v2 (by decide),
    U3_ne m d main_v1_0 (by decide), U3_ne m d main_v1_1 (by decide), U3_ne m d main_v1_2 (by decide), U3_ne m d main_v1_3 (by decide),
    U2_0, U2_1, U2_2, U2_3, show U4 m d (dr main_v3) = (vals m).res d from Function.update_self _ _ _]
  unfold rd
  iintro ⟨⟨H1, H2, H3, H4, H5⟩, H6⟩
  isplitl [H1]; · iexact H1
  isplitl [H2]; · iexact H2
  isplitl [H3]; · iexact H3
  isplitl [H4]; · iexact H4
  isplitl [H5]; · iexact H5
  iexact H6

theorem held_rest (d : Dev nD) :
    (held (SparseCore.T d) (arrs \ callArrs) (U3 m d) : sProp 𝕄) = held (SparseCore.T d) (arrs \ callArrs) (U4 m d) := by
  unfold StableHlo.held
  refine bigSep_congr fun b hb => ?_
  rw [show U4 m d b = U3 m d b from Function.update_of_ne (fun e => (Finset.mem_sdiff.mp hb).2 (by rw [e]; simp [callArrs])) _ _]

/-- The region's record at the launch contents. -/
abbrev regM := reg (VR m) (fun d b => U2 m d (dr b)) (fun d => U2_0 m d) (fun d => U2_1 m d) (fun d => U2_2 m d) (fun d => U2_3 m d)
  (fun d b h0 h1 h2 h3 => U2_ne m d b h0 h1 h2 h3)

/-- What the launch element leaves each TensorCore: the ghost state of the TensorCore call's staging cells. -/
abbrev G (d : Dev nD) : sProp 𝕄 := iprop(cellsGhost (pin (pcfgs (F := F)) adm) EP 0 d ∗ toksInit (pin (pcfgs (F := F)) adm) EP 0 d)

/-- The TensorCore call as a program of its own signature. -/
abbrev callP : Prog (TpuEff nD τ sig (Elt F) (ΛP (F := F)) .tc) PUnit := .op (.customCall (Pipeline.entry 0) ()) fun x => .ret x

/-- The TensorCore call in @main: its arrays from the contents it finds to the contents it leaves, while the core owes
the SparseCore call's signals. -/
theorem wp_region [∀ e, Nonempty (Elt F e)] (d : Dev nD) (Q : PUnit → sProp 𝕄) :
    iprop((iprop(boundary (SparseCore.T d) ∗ held (SparseCore.T d) arrs (U2 m d)
          ∗ ∃ W, ⌜(K (F := F)).WBelow (SparseCore.T d) W 0⌝ ∗ owes (SparseCore.T d) ((K (F := F)).Otc d 0) W) -∗ Q ⟨⟩)
        ∗ boundary (SparseCore.T d) ∗ held (SparseCore.T d) arrs (U1 m d)
        ∗ (∃ W, ⌜(K (F := F)).WBelow (SparseCore.T d) W 0⌝ ∗ owes (SparseCore.T d) ((K (F := F)).Otc d 0) W)
        ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ())) Q := by
  have e : (Prog.lift (.customCall (SparseCore.inner (Pipeline.entry 0)) ()) : Prog (TpuEff nD τ sig (Elt F) (SparseCore.Sig (ΛP (F := F)) 1) .tc) PUnit)
      = SparseCore.liftProg callP := rfl
  rw [e]
  have h0 := (K (F := F)).wp_liftProg (D (F := F)) 𝒱 (SparseCore.T d) Set.univ none callP Q
  have hinj : Function.Injective (Pipeline.cellOf (nD := nD) (τ := τ) (pin (pcfgs (F := F)) adm)) := launch0.cellOf_inj
  have h := Pipeline.RegionSeg.wp (pcfgs (F := F)) adm (pdats (VR m)) (none : HIx 1) hinj EP defs₀ 𝒱₀
    (K (F := F)).L (K (F := F)).lev (regM m) d none (fun _ h => absurd h (by simp)) (fun x => .ret x) Q
  rw [← unscoped_held, ← unscoped_held]
  iintro ⟨Hk, Hb, Hu, HO, Hlv, Hg, Ht⟩
  iapply h0
  iapply h
  isplitl [Hk]
  · iintro ⟨Hb, Hpost⟩
    ihave Hpost := (show (regM m).post d ⊢ iprop(unscopedBufs d (fun b => U2 m d (dr b))
      ∗ ∃ W, ⌜(K (F := F)).WBelow (SparseCore.T d) W 0⌝ ∗ owes (SparseCore.T d) ((K (F := F)).Otc d 0) W) from BI.Entails.refl _) $$ Hpost
    icases Hpost with ⟨Hu, HO⟩
    rw [wp_ret]; imodintro
    iapply Hk
    isplitl [Hb]; · iexact Hb
    isplitl [Hu]; · iexact Hu
    iexact HO
  isplitl [Hb]; · iexact Hb
  isplitl [Hu HO]
  · iapply (show iprop(unscopedBufs d (fun b => U1 m d (dr b))
      ∗ ∃ W, ⌜(K (F := F)).WBelow (SparseCore.T d) W 0⌝ ∗ owes (SparseCore.T d) ((K (F := F)).Otc d 0) W) ⊢ (regM m).pre d from BI.Entails.refl _)
    isplitl [Hu]; · iexact Hu
    iexact HO
  isplitl [Hlv]; · iexact Hlv
  isplitl [Hg]; · iexact Hg
  iexact Ht

theorem st0_eq (d : Dev nD) : (bigSep Finset.univ fun c : Fin ((K (F := F)).nCore 0) => (P (vals m)).st 0 d c)
    = bigSep Finset.univ fun c : Fin 2 => corePart (vals m) d c ((vals m).o d) :=
  bigSep_cores (F := F) (fun c => corePart (vals m) d c ((vals m).o d))
theorem dn0_eq (d : Dev nD) : (bigSep Finset.univ fun c : Fin ((K (F := F)).nCore 0) => (P (vals m)).dn 0 d c)
    = bigSep Finset.univ fun c : Fin 2 => corePart (vals m) d c ((vals m).res d) :=
  bigSep_cores (F := F) (fun c => corePart (vals m) d c ((vals m).res d))

theorem hW : (opW (F := F)).bufs ⊆ arrs := by
  intro b hb
  have hb' : b ∈ ({dr main_arg3, dr main_v0} : Finset (DevRef τ sig)) := hb
  simp only [Finset.mem_insert, Finset.mem_singleton] at hb'
  rcases hb' with rfl | rfl <;> exact dr_mem_arrs _ rfl
theorem hZ : (opZ (F := F)).bufs ⊆ arrs := by
  intro b hb
  have hb' : b ∈ ({dr main_arg0, dr main_v2} : Finset (DevRef τ sig)) := hb
  simp only [Finset.mem_insert, Finset.mem_singleton] at hb'
  rcases hb' with rfl | rfl <;> exact dr_mem_arrs _ rfl
theorem hO : (opO (F := F)).bufs ⊆ arrs := by
  intro b hb
  have hb' : b ∈ ({dr main_v3, dr main_v4} : Finset (DevRef τ sig)) := hb
  simp only [Finset.mem_insert, Finset.mem_singleton] at hb'
  rcases hb' with rfl | rfl <;> exact dr_mem_arrs _ rfl

/-- What @main leaves the claims: every array, at its last contents. -/
abbrev FIN (d : Dev nD) : sProp 𝕄 := held (SparseCore.T d) arrs (U5 m d)

/-- @main on a device's TensorCore. -/
theorem hmain [∀ e, Nonempty (Elt F e)] (κ : GSem nD τ sig → ℕ) (d : Dev nD) :
    iprop((K (F := F)).ctx EH (P (vals m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) arrs (U0 m d) from unscoped_held d (U0 m d)]
  simp only [main, wp_bind, wp_pure]
  iintro ⟨#Hctx, Hst, ⟨Hb, Hheld, Hts, -⟩, HG⟩
  ihave #Hlv := (SparseCore.Cfg.ctx_levAts κ) $$ Hctx
  iapply (wp_hlo_within 𝒱 (SparseCore.T d) none Set.univ (op := opW) (S := arrs) hW (V := U0 m d)) $$ [Hb Hheld]
  · isplitl [Hb] <;> iassumption
  iintro ⟨Hb, Hheld⟩
  rw [wp_ret]; imodintro
  -- the TensorCore call
  ihave Hst' := (show (K (F := F)).tcSt EH d 0 ⊢ iprop((∃ W, ⌜(K (F := F)).WBelow (SparseCore.T d) W 0⌝ ∗ owes (SparseCore.T d) ((K (F := F)).Otc d 0) W)
      ∗ ((∃ W, ⌜(K (F := F)).WBelow (SparseCore.T d) W 0⌝ ∗ owes (SparseCore.T d) ((K (F := F)).Otc d 0) W) -∗ (K (F := F)).tcSt EH d 0)) from by
    unfold SparseCore.Cfg.tcSt
    iintro ⟨HO, Hrest⟩
    isplitl [HO]; · iexact HO
    iintro HO
    isplitl [HO]; · iexact HO
    iexact Hrest) $$ Hst
  icases Hst' with ⟨HO, Hback⟩
  iapply (wp_region m d _)
  isplitr [Hb Hheld HO HG]
  rotate_left
  · isplitl [Hb]; · iexact Hb
    isplitl [Hheld]; · iexact Hheld
    isplitl [HO]; · iexact HO
    isplitr; · iexact Hlv
    iexact HG
  iintro ⟨Hb, Hheld, HO⟩
  ihave Hst := Hback $$ HO
  iapply (wp_hlo_within 𝒱 (SparseCore.T d) none Set.univ (op := opZ) (S := arrs) hZ (V := U2 m d)) $$ [Hb Hheld]
  · isplitl [Hb] <;> iassumption
  iintro ⟨Hb, Hheld⟩
  rw [wp_ret]; imodintro
  -- the SparseCore call
  ihave Hh := (show (held (SparseCore.T d) arrs ((opZ (F := F)).result (U2 m d)) : sProp 𝕄) ⊢ _ from
    Entails.of_eq (held_sub_split (c := SparseCore.T d) callArrs_sub (U3 m d))) $$ Hheld
  icases Hh with ⟨Hcall, Hrest⟩
  ihave Hcall := (held_before m d) $$ Hcall
  ihave Hc := (cores_split (vals m) d ((vals m).o d)) $$ Hcall
  icases Hc with ⟨Hdrop, Hcores⟩
  iapply ((K (F := F)).wp_run (D (F := F)) 𝒱 (EH := EH) (P := P (vals m)) κ d 0) $$ [Hst Hcores Hdrop Hb Hrest Hts]
  isplitr; · iexact Hctx
  isplitl [Hst]; · iexact Hst
  isplitl [Hcores]
  · rw [st0_eq]; iexact Hcores
  iintro ⟨Hst, Hdn⟩
  ihave Hdn' := (Entails.of_eq (dn0_eq m d)) $$ Hdn
  ihave Hj := (cores_join (vals m) d ((vals m).res d)) $$ [Hdrop Hdn']
  · isplitl [Hdrop] <;> iassumption
  ihave Hcall := (held_after m d) $$ Hj
  ihave Hrest := (Entails.of_eq (held_rest m d)) $$ Hrest
  iapply (wp_hlo_within 𝒱 (SparseCore.T d) none Set.univ (op := opO) (S := arrs) hO (V := U4 m d)) $$ [Hb Hcall Hrest]
  · isplitl [Hb]; · iexact Hb
    iapply (Entails.of_eq (held_sub_split (c := SparseCore.T d) callArrs_sub (U4 m d)).symm)
    isplitl [Hcall] <;> iassumption
  iintro ⟨Hb, Hheld⟩
  rw [wp_ret]; imodintro; imodintro
  isplitl [Hst]; · iexact Hst
  isplitl [Hheld]; · iexact Hheld
  isplitl [Hb] <;> iassumption

/-! ## The launch -/

/-- The launch element: the handshakes' rounds, the staging cells' rounds, no transfer's counter. -/
def u₀ : UU := (initOf (K (F := F)).hsCells (K (F := F)).hsToks,
  (initOf (Pipeline.cells (pin (pcfgs (F := F)) adm) launch0.cellOf_inj) (Pipeline.launchToks (pin (pcfgs (F := F)) adm) launch0.cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P (vals m)).x q thr) := by
  unfold u₀
  iintro Hu
  ihave H := (ownU_pair _ _) $$ Hu
  icases H with ⟨HH, HR⟩
  ihave H := (own_pair_emb embR _ _) $$ HR
  icases H with ⟨HP, -⟩
  imod (Pipeline.fund_ghost (pin (pcfgs (F := F)) adm) EP launch0.cellOf_inj) $$ HP with ⟨Hg, Ht⟩
  imodintro
  isplitl [HH]; · iexact HH
  isplitl [Hg Ht]
  · rw [bigSep_sep']
    isplitl [Hg]
    · iapply (show (bigSep Finset.univ fun c : Dev nD => bigSep Finset.univ fun p => cellsGhost (pin (pcfgs (F := F)) adm) EP p c)
        ⊢ (bigSep Finset.univ fun c : Dev nD => cellsGhost (pin (pcfgs (F := F)) adm) EP 0 c) from
        Entails.of_eq (bigSep_congr fun _ _ => bigSep_univ_of_subsingleton (0 : Fin 1)))
      iexact Hg
    · iapply (show (bigSep Finset.univ fun c : Dev nD => bigSep Finset.univ fun p => toksInit (pin (pcfgs (F := F)) adm) EP p c)
        ⊢ (bigSep Finset.univ fun c : Dev nD => toksInit (pin (pcfgs (F := F)) adm) EP 0 c : sProp 𝕄) from
        Entails.of_eq (bigSep_congr fun _ _ => bigSep_univ_of_subsingleton (0 : Fin 1)))
      iexact Ht
  · rw [show (bigSep Finset.univ fun thr : Thread nD τ => bigSep Finset.univ fun q : Fin 1 => (P (vals m)).x q thr)
      = (bigSep Finset.univ fun thr : Thread nD τ => bigSep Finset.univ fun q : Fin 1 => (iprop(emp) : sProp 𝕄)) from rfl]
    rw [show (fun _ : Thread nD τ => bigSep Finset.univ fun _ : Fin 1 => (iprop(emp) : sProp 𝕄)) = fun _ => iprop(emp) from
      funext fun _ => bigSep_emp_const _]
    iapply (Entails.of_eq (bigSep_emp_const (Finset.univ : Finset (Thread nD τ))).symm)
    iempintro

/-- What the claims read of a device's final memory: every array at its last contents. -/
def fq (d : Dev nD) (s' : Phys nD τ sig (Elt F)) : Prop :=
  ∀ b : Ref sig .tc, (dr b).isScoped = false → s'.mem.mem ((d : Thread nD τ).loc b) = U5 m d (dr b)

theorem hfin (d : Dev nD) (s' : Phys nD τ sig (Elt F)) : iprop(FIN m d ∗ SI s') ⊢ (⌜fq m d s'⌝ : sProp 𝕄) := by
  refine (show _ ⊢ iprop(∀ b : Ref sig .tc, ⌜(dr b).isScoped = false → s'.mem.mem ((d : Thread nD τ).loc b) = U5 m d (dr b)⌝) from ?_).trans ?_
  · iintro ⟨Hh, HSI⟩ %b
    by_cases hb : (dr b).isScoped = false
    · ihave Hb := (show FIN m d ⊢ iprop((d, dr b) ↦{fullShare} U5 m d (dr b)) from
        bigSep_elim (Φ := fun b => iprop((d, b) ↦{fullShare} U5 m d b)) (dr_mem_arrs b hb)) $$ Hh
      ihave H := (SI_pointsTo_agree (st := s') (ℓ := (d, dr b)) (I := Finset.univ) (q := fullShare) (f := U5 m d (dr b))) $$ [HSI Hb]
      · isplitl [HSI] <;> iassumption
      icases H with %h
      ipureintro; exact fun _ => funext fun i => h i (Finset.mem_univ i)
    · ipureintro; exact fun h => absurd h hb
  · exact pure_forall.2

/-- How the launched kernel ends. -/
def QC : PUnit × MemSt nD τ sig (Elt F) → Prop := fun r => (∀ d : Dev nD,
  r.2.mem ((d : Thread nD τ).loc main_v4) = outVal (m ((d : Thread nD τ).loc main_arg0)) (m ((d : Thread nD τ).loc main_arg1)) (m ((d : Thread nD τ).loc main_arg2)) (m ((d : Thread nD τ).loc main_arg3))
  ∧ r.2.mem ((d : Thread nD τ).loc main_arg0) = m ((d : Thread nD τ).loc main_arg0)
  ∧ r.2.mem ((d : Thread nD τ).loc main_arg1) = m ((d : Thread nD τ).loc main_arg1)
  ∧ r.2.mem ((d : Thread nD τ).loc main_arg2) = m ((d : Thread nD τ).loc main_arg2)
  ∧ r.2.mem ((d : Thread nD τ).loc main_arg3) = m ((d : Thread nD τ).loc main_arg3)) ∧ r.2.sem = fun _ => 0

/-- The kernel's run, over any float values: it ends with its result at `outVal`, its arguments unchanged and every
counter at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (vals m)) (A := ∅) facts v₀
    (fun q hq => match q with | 0 => nomatch hq)
    (fun q _ => match q with | 0 => tileObl (vals m) facts)
    (fun q _ => match q with | 0 => SparseCore.Cfg.VecSplit.of_plain (vecSplit (vals m)))
    m ρ main G (FIN m) (u₀ (F := F)) (sep_elim_left.trans (hu₀ m)) (hmain m ρ) (fq m) (hfin m) (QC m)
    (fun s' h hz => ⟨fun d => ⟨(h d main_v4 rfl).trans (U5_out m d),
      (h d main_arg0 rfl).trans (U5_arg m d main_arg0 (by decide) (by decide) (by decide) (by decide) (by decide) (by decide) (by decide) (by decide)),
      (h d main_arg1 rfl).trans (U5_arg m d main_arg1 (by decide) (by decide) (by decide) (by decide) (by decide) (by decide) (by decide) (by decide)),
      (h d main_arg2 rfl).trans (U5_arg m d main_arg2 (by decide) (by decide) (by decide) (by decide) (by decide) (by decide) (by decide) (by decide)),
      (h d main_arg3 rfl).trans (U5_arg m d main_arg3 (by decide) (by decide) (by decide) (by decide) (by decide) (by decide) (by decide) (by decide))⟩, hz⟩)

end Main

end Cert.Proof.Mix
-- ==== Proof.Frames.lean ====
/-
  The frames of the kernel, of its ideal form and of the reference. `Kernel` and `KernelIdeal` are the same text but for the named constant, which over the machine's floats
  is read as its own word; so the run of `KernelIdeal` over the machine's floats is the run of `Kernel`.
-/
module

public import proofs.«01_k».proof.Proof.Run
public import proofs.«01_k».proof.Proof.Gen.Kernel
public import proofs.«01_k».proof.Proof.Gen.ReferenceIdeal.Run
public import Idealize.ShloMosaic.Lib.Quiescent

@[expose] public section

noncomputable section

namespace Cert.Proof.Mix

open Idealize.ShloMosaic

/-- Over the machine's floats a named constant is its own word. -/
local instance namedBits : Named Bits := ⟨fun _ _ _ b => FloatOps.ofBits _ b⟩

/-- The TensorCore body of `Kernel` is that of `KernelIdeal` over the machine's floats. -/
theorem prep_body_eq : @Cert.Kernel.cc0__prep_body Bits _ _ = @Cert.KernelIdeal.cc0__prep_body Bits _ _ _ := rfl

/-- The two body tables are the same. -/
theorem defs₀_eq : @Cert.Kernel.defs₀ Bits _ _ = @Cert.KernelIdeal.defs₀ Bits _ _ _ := by
  funext p l a
  match p, l, a with
  | .tc, 0, (t, s) => rfl
  | .tc, 1, _ => rfl
  | .scScalar _, 0, _ => rfl
  | .scScalar _, 1, _ => rfl
  | .scVector _ _, 0, _ => rfl
  | .scVector c s, 1, _ => rfl

/-- The two tables with the calls' machinery are the same. -/
theorem defs_eq : @Cert.Kernel.defs Bits _ _ = @Cert.KernelIdeal.defs Bits _ _ _ := by
  unfold Cert.Kernel.defs Cert.KernelIdeal.defs
  rw [defs₀_eq]
  rfl

/-- The frame of `KernelIdeal`. -/
theorem frame_kernelIdeal : Cert.quiescent_KernelIdeal := fun m ρ _ =>
  (θ_run Cert.KernelIdeal.defs _ _).mono (fun _ h => ⟨fun c => (h.1 c).2, h.2⟩) (run_main (F := Ideal) m ρ)

/-- The frame of `Kernel`: the run of `KernelIdeal`'s text over the machine's floats. -/
theorem frame_kernel : Cert.quiescent_Kernel := fun m ρ _ => by
  rw [defs_eq]
  exact (θ_run Cert.KernelIdeal.defs _ _).mono (fun _ h => ⟨fun c => (h.1 c).2, h.2⟩) (run_main (F := Bits) m ρ)

/-- The frame of `KernelIdeal` where the points are finite. -/
theorem frame_kernelIdeal_finite [Cert.Pre_points_finite.Facts] : Cert.quiescent_KernelIdeal_pre_points_finite := fun m ρ _ =>
  (θ_run Cert.KernelIdeal.defs _ _).mono (fun _ h => ⟨fun c => (h.1 c).2, h.2⟩) (run_main (F := Ideal) m ρ)

/-- The frame of the reference, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The frame of the reference where the points are finite. -/
theorem frame_reference_finite [Cert.Pre_points_finite.Facts] : Cert.quiescent_ReferenceIdeal_pre_points_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Mix
-- ==== Proof.LogSumExp.lean ====
/-
  The mathematics of the value claim, over the extended reals and free of any program: the logarithm of a sum of
  exponentials, a weight's log-softmax in its two spellings, and the equation between the expanded square that the
  kernel sums and the Gaussian log-density that the reference sums.
-/
module

public import Idealize.ShloMosaic.PureOps.Ideal.Laws

@[expose] public section

noncomputable section

namespace Cert.Proof.LogSumExp

open Idealize.ShloMosaic

variable {ι : Type} [Fintype ι]

/-- The greatest of finitely many extended reals, −∞ of none. -/
def most (w : ι → EReal) : EReal := Finset.univ.fold max ⊥ w

theorem most_eq_sup (w : ι → EReal) : most w = Finset.univ.sup w := rfl

theorem le_most (w : ι → EReal) (k : ι) : w k ≤ most w := by
  rw [most_eq_sup]; exact Finset.le_sup (Finset.mem_univ k)

theorem exists_eq_most [Nonempty ι] (w : ι → EReal) : ∃ k, most w = w k := by
  obtain ⟨k, -, h⟩ := Finset.exists_mem_eq_sup Finset.univ Finset.univ_nonempty w
  exact ⟨k, h⟩

/-- The logarithm of the sum of the exponentials. -/
def lse (q : ι → EReal) : EReal := Ideal.log (∑ k, Ideal.exp (q k))

/-- Of a number that isn't +∞ the exponential is a real, and adding a real to the number multiplies it. -/
theorem exp_add {p : EReal} (h : p ≠ ⊤) : ∃ E : ℝ, 0 ≤ E ∧ Ideal.exp p = (E : EReal) ∧
    ∀ s : ℝ, Ideal.exp (p + s) = ((E * Real.exp s : ℝ) : EReal) := by
  induction p using EReal.rec with
  | bot => exact ⟨0, le_refl _, by simp, fun s => by simp⟩
  | coe r =>
    refine ⟨Real.exp r, (Real.exp_pos r).le, rfl, fun s => ?_⟩
    rw [← EReal.coe_add, Ideal.exp_coe, Real.exp_add]
  | top => exact absurd rfl h

/-- A finite sum of reals, read among the extended reals. -/
theorem coe_sum (f : ι → ℝ) : (∑ k, (f k : EReal)) = ((∑ k, f k : ℝ) : EReal) := by
  classical
  refine Finset.induction_on (Finset.univ : Finset ι) (by simp) fun a s ha ih => ?_
  rw [Finset.sum_insert ha, Finset.sum_insert ha, ih, EReal.coe_add]

/-- Adding one real to every exponent adds it to the logarithm of the sum. -/
theorem lse_add (q : ι → EReal) (h : ∀ k, q k ≠ ⊤) (s : ℝ) : lse (fun k => q k + s) = lse q + s := by
  choose E hE he ha using fun k => exp_add (h k)
  have h1 : (∑ k, Ideal.exp (q k)) = ((∑ k, E k : ℝ) : EReal) := by
    rw [← coe_sum]; exact Finset.sum_congr rfl fun k _ => he k
  have h2 : (∑ k, Ideal.exp (q k + s)) = (((∑ k, E k) * Real.exp s : ℝ) : EReal) := by
    rw [Finset.sum_mul, ← coe_sum]; exact Finset.sum_congr rfl fun k _ => ha k s
  unfold lse
  rw [h1, h2, Ideal.log_coe, Ideal.log_coe]
  by_cases hz : (∑ k, E k) ≤ 0
  · rw [if_pos hz, if_pos (mul_nonpos_of_nonpos_of_nonneg hz (Real.exp_pos s).le), EReal.bot_add]
  · have hp : 0 < ∑ k, E k := not_le.1 hz
    rw [if_neg hz, if_neg (not_le.2 (mul_pos hp (Real.exp_pos s))),
      Real.log_mul hp.ne' (Real.exp_pos s).ne', Real.log_exp, EReal.coe_add]

/-- The reference's guarded shift: whatever real is taken off the exponents and added again, the value is the same. -/
theorem lse_shift (q : ι → EReal) (h : ∀ k, q k ≠ ⊤) (M : EReal) (hM : M ≠ ⊤ ∧ M ≠ ⊥) :
    Ideal.log (∑ k, Ideal.exp (q k - M)) + M = lse q := by
  lift M to ℝ using hM
  have e := lse_add q h (-M)
  have e' : Ideal.log (∑ k, Ideal.exp (q k - (M : EReal))) = lse q + ((-M : ℝ) : EReal) := by
    rw [← e]; rfl
  rw [e', add_assoc, ← EReal.coe_add, neg_add_cancel, EReal.coe_zero, add_zero]

/-- Of exponents that are all −∞ it is −∞. -/
theorem lse_bot (q : ι → EReal) (h : ∀ k, q k = ⊥) : lse q = ⊥ := by
  have : (∑ k, Ideal.exp (q k)) = ((0 : ℝ) : EReal) := by
    rw [Finset.sum_eq_zero fun k _ => by rw [h k, Ideal.exp_bot], EReal.coe_zero]
  rw [lse, this, Ideal.log_coe, if_pos le_rfl]

/-! ## The weights -/

/-- The log-softmax of the weights as the kernel takes it. -/
def logW (w : ι → EReal) (k : ι) : EReal := w k - (most w + Ideal.log (∑ j, Ideal.exp (w j - most w)))

/-- The logarithm of the softmax of the weights, as the reference takes it. -/
def logSoft (w : ι → EReal) (k : ι) : EReal :=
  Ideal.log (Ideal.div (Ideal.exp (w k - most w)) (∑ j, Ideal.exp (w j - most w)))

/-- Where the greatest weight is a real the two spellings agree, are not +∞, and are a real at some weight. -/
theorem logW_eq [Nonempty ι] (w : ι → EReal) (r : ℝ) (hr : most w = r) :
    (∀ k, logW w k = logSoft w k ∧ logSoft w k ≠ ⊤) ∧ ∃ k, logSoft w k ≠ ⊥ := by
  have hw : ∀ k, w k ≠ ⊤ := fun k h => by
    have := le_most w k
    rw [h, hr] at this
    exact absurd (top_le_iff.1 this) (EReal.coe_ne_top r)
  choose E hE he ha using fun k => exp_add (hw k)
  have h1 : ∀ k, Ideal.exp (w k - (r : EReal)) = ((E k * Real.exp (-r) : ℝ) : EReal) := fun k => ha k (-r)
  obtain ⟨i, hi⟩ := exists_eq_most w
  have hEi : E i = Real.exp r := by
    have := he i
    rw [← hi, hr, Ideal.exp_coe] at this
    exact (EReal.coe_injective this).symm
  have hS : (∑ j, Ideal.exp (w j - (r : EReal))) = (((∑ j, E j) * Real.exp (-r) : ℝ) : EReal) := by
    rw [Finset.sum_mul, ← coe_sum]; exact Finset.sum_congr rfl fun k _ => h1 k
  have hpos : 0 < ∑ j, E j := lt_of_lt_of_le (by rw [hEi]; exact Real.exp_pos r)
    (Finset.single_le_sum (f := E) (fun j _ => hE j) (Finset.mem_univ i))
  have hSpos : 0 < (∑ j, E j) * Real.exp (-r) := mul_pos hpos (Real.exp_pos _)
  have key : ∀ k, logW w k = w k - ((r + Real.log ((∑ j, E j) * Real.exp (-r)) : ℝ) : EReal) := fun k => by
    rw [logW, hr, hS, Ideal.log_coe, if_neg (not_le.2 hSpos), EReal.coe_add]
  have soft : ∀ k, logSoft w k = Ideal.log ((E k * Real.exp (-r) / ((∑ j, E j) * Real.exp (-r)) : ℝ) : EReal) := fun k => by
    rw [logSoft, hr, hS, h1 k, Ideal.div_coe hSpos.ne', ← EReal.coe_mul, mul_one_div]
  have both : ∀ k, (w k = ⊥ ∧ logSoft w k = ⊥) ∨ ∃ t : ℝ, w k = t ∧
      logSoft w k = ((t - (r + Real.log ((∑ j, E j) * Real.exp (-r))) : ℝ) : EReal) := fun k => by
    have hEk := he k
    rw [soft k]
    generalize hx : w k = x at hEk
    induction x using EReal.rec with
    | bot =>
      rw [Ideal.exp_bot] at hEk
      have h0 : E k = 0 := (EReal.coe_injective (by rw [← hEk, EReal.coe_zero]) : (E k) = 0)
      exact Or.inl ⟨rfl, by rw [h0, zero_mul, zero_div, Ideal.log_coe, if_pos le_rfl]⟩
    | coe t =>
      have h0 : E k = Real.exp t := (EReal.coe_injective hEk).symm
      refine Or.inr ⟨t, rfl, ?_⟩
      have hp : 0 < Real.exp t * Real.exp (-r) / ((∑ j, E j) * Real.exp (-r)) := div_pos (mul_pos (Real.exp_pos _) (Real.exp_pos _)) hSpos
      rw [h0, Ideal.log_coe, if_neg (not_le.2 hp), Real.log_div (mul_pos (Real.exp_pos _) (Real.exp_pos _)).ne' hSpos.ne',
        ← Real.exp_add, Real.log_exp]
      congr 1; ring
    | top => exact absurd hx (hw k)
  refine ⟨fun k => ?_, i, ?_⟩
  · rcases both k with ⟨h, h'⟩ | ⟨t, h, h'⟩
    · rw [key, h, h']; exact ⟨by rw [EReal.bot_sub], bot_ne_top⟩
    · rw [key, h, h', EReal.coe_sub]; exact ⟨rfl, by rw [← EReal.coe_sub]; exact EReal.coe_ne_top _⟩
  · rcases both i with ⟨h, h'⟩ | ⟨t, h, h'⟩
    · rw [← hi, hr] at h; exact absurd h (EReal.coe_ne_bot r)
    · rw [h']; exact EReal.coe_ne_bot _

/-- Where the greatest weight is +∞, no exponential is left, and the softmax has no value anywhere. -/
theorem logSoft_top (w : ι → EReal) (h : most w = ⊤) (k : ι) : logSoft w k = ⊥ := by
  have h0 : ∀ k, Ideal.exp (w k - most w) = 0 := fun k => by rw [h, EReal.sub_top, Ideal.exp_bot]
  have hs : (∑ j, Ideal.exp (w j - most w)) = 0 := Finset.sum_eq_zero fun j _ => h0 j
  rw [logSoft, h0 k, hs, Ideal.div, if_pos rfl, if_neg (lt_irrefl _), Ideal.log_bot]

/-- There the kernel's spelling is −∞ or +∞. -/
theorem logW_top (w : ι → EReal) (h : most w = ⊤) (k : ι) : logW w k = ⊤ ∨ logW w k = ⊥ := by
  have hs : (∑ j, Ideal.exp (w j - most w)) = ((0 : ℝ) : EReal) := by
    rw [EReal.coe_zero]; exact Finset.sum_eq_zero fun j _ => by rw [h, EReal.sub_top, Ideal.exp_bot]
  rw [logW, hs, Ideal.log_coe, if_pos le_rfl, EReal.add_bot]
  induction w k using EReal.rec with
  | bot => exact Or.inr (EReal.bot_sub _)
  | coe t => exact Or.inl (EReal.coe_sub_bot t)
  | top => exact Or.inl EReal.top_sub_bot

/-- Where every weight is −∞ both spellings are −∞. -/
theorem logW_bot (w : ι → EReal) (h : most w = ⊥) (k : ι) : logW w k = ⊥ ∧ logSoft w k = ⊥ := by
  have hw : ∀ k, w k = ⊥ := fun k => le_bot_iff.1 (h ▸ le_most w k)
  have h0 : ∀ k, Ideal.exp (w k - most w) = 0 := fun k => by rw [hw k, EReal.bot_sub, Ideal.exp_bot]
  have hs : (∑ j, Ideal.exp (w j - most w)) = 0 := Finset.sum_eq_zero fun j _ => h0 j
  constructor
  · rw [logW, hw k, EReal.bot_sub]
  · rw [logSoft, h0 k, hs, Ideal.div, if_pos rfl, if_neg (lt_irrefl _), Ideal.log_bot]

/-! ## One element of the result -/

/-- A weight's log-softmax less half the log-variance: what the kernel's tables start from. -/
def base (w : ι → EReal) (lv : ι → EReal) (k : ι) : EReal := logW w k - ((1 / 2 : ℝ) : EReal) * lv k

/-- The coefficient of the square. -/
def quad (lv : ι → EReal) (k : ι) : EReal := ((-(1 / 2) : ℝ) : EReal) * Ideal.exp (0 - lv k)

/-- The exponent that the kernel sums for component `k`: `α + β·x + γ·x²`. -/
def expo (x : EReal) (mu lv w : ι → EReal) (k : ι) : EReal :=
  ((base w lv k - most (base w lv) + quad lv k * mu k * mu k) + ((-2 : ℝ) : EReal) * quad lv k * mu k * x) + quad lv k * (x * x)

/-- The kernel's result at one latent value. -/
def kernelAt (C : EReal) (x : EReal) (mu lv w : ι → EReal) : EReal := (most (base w lv) + C) + lse (expo x mu lv w)

/-- The reference's log-density of component `k` plus its log-weight. -/
def density (C : EReal) (x : EReal) (mu lv w : ι → EReal) (k : ι) : EReal :=
  ((C - ((1 / 2 : ℝ) : EReal) * lv k) - (((1 / 2 : ℝ) : EReal) * Ideal.exp (-(lv k))) * Ideal.pow (x - mu k) ((2 : ℝ) : EReal)) + logSoft w k

/-- The reference's shift: the greatest exponent if it is finite, else zero. -/
def shift (q : ι → EReal) : EReal := if max (most q) (-(most q)) < ⊤ then most q else 0

/-- The reference's result at one latent value. -/
def referenceAt (C : EReal) (x : EReal) (mu lv w : ι → EReal) : EReal :=
  Ideal.log (∑ k, Ideal.exp (density C x mu lv w k - shift (density C x mu lv w))) + shift (density C x mu lv w)

theorem shift_finite (q : ι → EReal) : shift q ≠ ⊤ ∧ shift q ≠ ⊥ := by
  unfold shift
  split
  · rename_i h
    constructor
    · intro e; rw [e] at h; simp at h
    · intro e; rw [e] at h; simp at h
  · exact ⟨EReal.zero_ne_top, EReal.zero_ne_bot⟩

/-- The log-density is a real plus the log-weight. -/
theorem density_eq (C x : ℝ) (mu lv : ι → ℝ) (w : ι → EReal) (k : ι) :
    density C x (fun k => mu k) (fun k => lv k) w k
      = ((C - 1 / 2 * lv k - 1 / 2 * Real.exp (-(lv k)) * (x - mu k) ^ 2 : ℝ) : EReal) + logSoft w k := by
  have h2 : Ideal.pow ((x : EReal) - (mu k : EReal)) ((2 : ℝ) : EReal) = (((x - mu k) ^ 2 : ℝ) : EReal) := by
    rw [← EReal.coe_sub, Ideal.pow_coe_coe]
    exact congrArg _ (Real.rpow_two _)
  unfold density
  rw [h2, ← EReal.coe_neg, Ideal.exp_coe]
  norm_cast

/-- Kernel and reference have the same value where the latent value, the means and the log-variances are reals,
    whatever the weights. -/
theorem kernelAt_eq [Nonempty ι] (C x : ℝ) (mu lv : ι → ℝ) (w : ι → EReal) :
    kernelAt C x (fun k => mu k) (fun k => lv k) w = referenceAt C x (fun k => mu k) (fun k => lv k) w := by
  set q := density (C : EReal) x (fun k => (mu k : EReal)) (fun k => (lv k : EReal)) w with hq
  have hqk : ∀ k, q k = ((C - 1 / 2 * lv k - 1 / 2 * Real.exp (-(lv k)) * (x - mu k) ^ 2 : ℝ) : EReal) + logSoft w k :=
    fun k => density_eq C x mu lv w k
  have ref : (∀ k, q k ≠ ⊤) → referenceAt C x (fun k => mu k) (fun k => lv k) w = lse q := fun h =>
    lse_shift q h _ (shift_finite q)
  have degenerate : (∀ k, logSoft w k = ⊥) → (∀ k, logW w k = ⊤ ∨ logW w k = ⊥) →
      kernelAt C x (fun k => mu k) (fun k => lv k) w = referenceAt C x (fun k => mu k) (fun k => lv k) w := fun hs hl => by
    have hqb : ∀ k, q k = ⊥ := fun k => by rw [hqk k, hs k, EReal.add_bot]
    rw [ref fun k => by rw [hqb k]; exact bot_ne_top, lse_bot q hqb, kernelAt]
    have hb : ∀ k, base w (fun k => (lv k : EReal)) k = ⊤ ∨ base w (fun k => (lv k : EReal)) k = ⊥ := fun k => by
      unfold base
      rw [← EReal.coe_mul]
      rcases hl k with h | h
      · exact Or.inl (by rw [h, EReal.top_sub_coe])
      · exact Or.inr (by rw [h, EReal.bot_sub])
    have he : ∀ k, expo x (fun k => (mu k : EReal)) (fun k => (lv k : EReal)) w k = ⊥ := fun k => by
      have : base w (fun k => (lv k : EReal)) k - most (base w fun k => (lv k : EReal)) = ⊥ := by
        obtain ⟨i, hi⟩ := exists_eq_most (base w fun k => (lv k : EReal))
        have hk := le_most (base w fun k => (lv k : EReal)) k
        rcases hb i with h | h
        · rw [hi, h, EReal.sub_top]
        · rw [hi, h] at hk
          rw [le_bot_iff.1 hk, EReal.bot_sub]
      rw [expo, this, EReal.bot_add, EReal.bot_add, EReal.bot_add]
    rw [lse_bot _ he, EReal.add_bot]
  generalize hm : most w = mw
  induction mw using EReal.rec with
  | bot => exact degenerate (fun k => (logW_bot w hm k).2) fun k => Or.inr (logW_bot w hm k).1
  | top => exact degenerate (logSoft_top w hm) (logW_top w hm)
  | coe r =>
    obtain ⟨hl, i, hi⟩ := logW_eq w r hm
    have hq' : ∀ k, q k ≠ ⊤ := fun k => by
      rw [hqk k]
      exact EReal.add_ne_top (EReal.coe_ne_top _) (hl k).2
    rw [ref hq']
    have hb : ∀ k, base w (fun k => (lv k : EReal)) k = logSoft w k - ((1 / 2 * lv k : ℝ) : EReal) := fun k => by
      rw [base, (hl k).1, EReal.coe_mul]
    obtain ⟨A, hA⟩ : ∃ A : ℝ, most (base w fun k => (lv k : EReal)) = A := by
      have hmt : most (base w fun k => (lv k : EReal)) ≠ ⊤ := by
        obtain ⟨j, hj⟩ := exists_eq_most (base w fun k => (lv k : EReal))
        rw [hj, hb j, sub_eq_add_neg, ← EReal.coe_neg]
        exact EReal.add_ne_top (hl j).2 (EReal.coe_ne_top _)
      have hmb : most (base w fun k => (lv k : EReal)) ≠ ⊥ := fun h => by
        have hk := le_most (base w fun k => (lv k : EReal)) i
        rw [h, hb i, le_bot_iff, sub_eq_add_neg, ← EReal.coe_neg, EReal.add_eq_bot_iff] at hk
        exact hk.elim hi (EReal.coe_ne_bot _)
      exact ⟨_, (EReal.coe_toReal hmt hmb).symm⟩
    have he : ∀ k, q k = expo x (fun k => (mu k : EReal)) (fun k => (lv k : EReal)) w k + ((A + C : ℝ) : EReal) := fun k => by
      rw [hqk k, expo, hb k, hA, quad, zero_sub, ← EReal.coe_neg, Ideal.exp_coe]
      have hk := (hl k).2
      generalize logSoft w k = l at hk
      induction l using EReal.rec with
      | bot => simp only [EReal.bot_sub, EReal.bot_add, EReal.add_bot]
      | coe t =>
        simp only [← EReal.coe_mul, ← EReal.coe_add, ← EReal.coe_sub]
        congr 1; ring
      | top => exact absurd rfl hk
    have hp : ∀ k, expo x (fun k => (mu k : EReal)) (fun k => (lv k : EReal)) w k ≠ ⊤ := fun k h => by
      refine hq' k ?_
      rw [he k, h, EReal.top_add_coe]
    rw [kernelAt, hA, ← EReal.coe_add, add_comm, ← lse_add _ hp]
    exact congrArg lse (funext fun k => (he k).symm)

end Cert.Proof.LogSumExp
-- ==== Proof.Words.lean ====
/-
  The float words of the two programs as extended reals, and the normalising constant.
-/
module

public import proofs.«01_k».proof.KernelIdeal
public import Idealize.ShloMosaic.PureOps.Ideal.Laws

@[expose] public section

noncomputable section

namespace Cert.Proof.Value

open Idealize.ShloMosaic

theorem word_bot : Ideal.ofBits .f32 0xFF800000#32 = ⊥ := by simp [Ideal.ofBits, Ideal.ieee]
theorem word_top : Ideal.ofBits .f32 0x7F800000#32 = ⊤ := by simp [Ideal.ofBits, Ideal.ieee]
theorem word_half : Ideal.ofBits .f32 0x3F000000#32 = ((1 / 2 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul]; norm_num
theorem word_neg_two : Ideal.ofBits .f32 0xC0000000#32 = ((-2 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_scale : Ideal.ofBits .f32 0xC6000000#32 = ((-8192 : ℝ) : EReal) := by
  simp [Ideal.ofBits, Ideal.ieee, -EReal.coe_mul]; norm_num
theorem word_circle : Ideal.ofBits .f32 0x40C90FDB#32 = ((13176795 / 2097152 : ℝ) : EReal) := by
  simp [Ideal.ofBits, Ideal.ieee, -EReal.coe_mul]; norm_num

/-- The normalising constant: −8192 times the logarithm of the programs' 2π. -/
def norm : ℝ := -8192 * Real.log (13176795 / 2097152)

/-- As the reference computes it. -/
theorem norm_reference : Ideal.ofBits .f32 0xC6000000#32 * Ideal.log (Ideal.ofBits .f32 0x40C90FDB#32) = (norm : EReal) := by
  rw [word_scale, word_circle, Ideal.log_coe, if_neg (by norm_num), ← EReal.coe_mul, norm]

/-- As the kernel names it. -/
theorem norm_kernel : (Named.named (F := Ideal) Cert.KernelIdeal.κ "log_norm" (φ := .f32) 0xC66B3F8E#32 : EReal) = (norm : EReal) := rfl

end Cert.Proof.Value
-- ==== Proof.RefValue.lean ====
/-
  The reference's result at one index, read in three parts: the log-weights, the log-densities of the components, and
  the guarded logarithm of the sum of exponentials.
-/
module

public import proofs.«01_k».proof.Proof.LogSumExp
public import proofs.«01_k».proof.Proof.Words
public import proofs.«01_k».proof.Proof.Gen.ReferenceIdeal.Run
public import Idealize.ShloMosaic.Lib.Pointwise
public import Idealize.ShloMosaic.PureOps.Ideal.Laws

@[expose] public section

noncomputable section

namespace Cert.Proof.Value

open Idealize.ShloMosaic Idealize.ShloMosaic.StableHlo Cert.Proof.LogSumExp
open Cert.ReferenceIdeal Cert.ReferenceIdeal.Gen

/-- A column of weights' exponentials, shifted by their maximum. -/
def refExp (w : FVec Ideal S16x1x1 .f32) : FVec Ideal S16x1x1 .f32 :=
  Host.exp (subf w (broadcastInDim S16x1x1 ![0, 1, 2] bcast_S1x1x1_S16x1x1_0_1_2 (broadcastInDim S1x1x1 ![1, 2] bcast_S1x1_S1x1x1_1_2
    (maximumf (broadcastInDim S1x1 ![] bcast_S_S1x1 (constant S_ .f32 0xFF800000#32))
      (Host.reduce FloatOps.maximumf w (constant S_ .f32 0xFF800000#32) reducesTo_S16x1x1_S1x1_d0 h_S_)))))

/-- The logarithm of the softmax of the weights. -/
def refLogW (w : FVec Ideal S16x1x1 .f32) : FVec Ideal S16x1x1 .f32 :=
  Host.log (Host.divf (refExp w) (broadcastInDim S16x1x1 ![0, 1, 2] bcast_S1x1x1_S16x1x1_0_1_2 (broadcastInDim S1x1x1 ![1, 2] bcast_S1x1_S1x1x1_1_2
    (Host.reduceAdd (refExp w) (constant S_ .f32 0x00000000#32) reducesTo_S16x1x1_S1x1_d0 h_S_))))

/-- The components' log-densities plus the log-weights `lw`. -/
def refDensity (z : FVec Ideal S16384x64 .f32) (mu lv : FVec Ideal S16x64 .f32) (lw : FVec Ideal S16x1x1 .f32) : FVec Ideal S16x16384x64 .f32 :=
  addf (subf
    (broadcastInDim S16x16384x64 ![0, 1, 2] bcast_S16x1x64_S16x16384x64_0_1_2 (subf
      (broadcastInDim S16x1x64 ![] bcast_S_S16x1x64 (id (mulf (constant S_ .f32 0xC6000000#32) (Host.log (constant S_ .f32 0x40C90FDB#32)))))
      (mulf (broadcastInDim S16x1x64 ![] bcast_S_S16x1x64 (constant S_ .f32 0x3F000000#32)) (broadcastInDim S16x1x64 ![0, 2] bcast_S16x64_S16x1x64_0_2 lv))))
    (mulf
      (broadcastInDim S16x16384x64 ![0, 1, 2] bcast_S16x1x64_S16x16384x64_0_1_2 (mulf (broadcastInDim S16x1x64 ![] bcast_S_S16x1x64 (constant S_ .f32 0x3F000000#32))
        (Host.exp (Host.negf (broadcastInDim S16x1x64 ![0, 2] bcast_S16x64_S16x1x64_0_2 lv)))))
      (Host.powf
        (subf (broadcastInDim S16x16384x64 ![0, 1, 2] bcast_S1x16384x64_S16x16384x64_0_1_2 (broadcastInDim S1x16384x64 ![1, 2] bcast_S16384x64_S1x16384x64_1_2 z))
          (broadcastInDim S16x16384x64 ![0, 1, 2] bcast_S16x1x64_S16x16384x64_0_1_2 (broadcastInDim S16x1x64 ![0, 2] bcast_S16x64_S16x1x64_0_2 mu)))
        (broadcastInDim S16x16384x64 ![] bcast_S_S16x16384x64 (constant S_ .f32 0x40000000#32)))))
    (broadcastInDim S16x16384x64 ![0, 1, 2] bcast_S16x1x1_S16x16384x64_0_1_2 lw)

/-- The greatest of the exponents. -/
def refMost (q : FVec Ideal S16x16384x64 .f32) : FVec Ideal S16384x64 .f32 :=
  Host.reduce FloatOps.maximumf q (constant S_ .f32 0xFF800000#32) reducesTo_S16x16384x64_S16384x64_d0 h_S_

/-- The shift taken off the exponents: `t` where it is finite, zero elsewhere. -/
def refShift (t : FVec Ideal S16384x64 .f32) : FVec Ideal S16384x64 .f32 :=
  select (cmpf .olt (Host.absf t) (broadcastInDim S16384x64 ![] bcast_S_S16384x64 (constant S_ .f32 0x7F800000#32))) t
    (broadcastInDim S16384x64 ![] bcast_S_S16384x64 (id (constant S_ .f32 0x00000000#32)))

/-- The logarithm of the sum of the exponentials, with the shift `s`. -/
def refLse (q : FVec Ideal S16x16384x64 .f32) (s : FVec Ideal S16384x64 .f32) : FVec Ideal S16384x64 .f32 :=
  addf (Host.log (Host.reduceAdd (Host.exp (subf q (broadcastInDim S16x16384x64 ![0, 1, 2] bcast_S1x16384x64_S16x16384x64_0_1_2
    (broadcastInDim S1x16384x64 ![1, 2] bcast_S16384x64_S1x16384x64_1_2 s)))) (constant S_ .f32 0x00000000#32) reducesTo_S16x16384x64_S16384x64_d0 h_S_)) s

/-- The whole reference. -/
def refOut (z : FVec Ideal S16384x64 .f32) (mu lv : FVec Ideal S16x64 .f32) (w : FVec Ideal S16x1x1 .f32) : FVec Ideal S16384x64 .f32 :=
  refLse (refDensity z mu lv (refLogW w)) (refShift (refMost (refDensity z mu lv (refLogW w))))

set_option maxRecDepth 16384 in
/-- It is what the run ends with. -/
theorem res_eq (m : (ℓ : Loc nD τ sig) → Buf (Elt Ideal) ℓ) (c : Dev nD) :
    Cert.ReferenceIdeal.Value.res_main_v48 m c
      = refOut (m ((c.tc : Thread nD τ).loc main_arg0)) (m ((c.tc : Thread nD τ).loc main_arg1))
          (m ((c.tc : Thread nD τ).loc main_arg2)) (m ((c.tc : Thread nD τ).loc main_arg3)) := by
  unfold Cert.ReferenceIdeal.Value.res_main_v48
  rfl

variable (z : FVec Ideal S16384x64 .f32) (mu lv : FVec Ideal S16x64 .f32) (w lw : FVec Ideal S16x1x1 .f32)
  (q : FVec Ideal S16x16384x64 .f32) (s t : FVec Ideal S16384x64 .f32) (n : Fin 16384) (e : Fin 64) (k : Fin 16)

theorem refExp_at : (refExp w (ix3 k 0 0) : EReal) = Ideal.exp (w (ix3 k 0 0) - most (fun j : Fin 16 => (w (ix3 j 0 0) : EReal))) := by
  unfold refExp
  pointwise
  simp only [word_bot, bot_le, sup_of_le_right, max_eq_right]
  rfl

theorem refLogW_at : (refLogW w (ix3 k 0 0) : EReal) = logSoft (fun j : Fin 16 => (w (ix3 j 0 0) : EReal)) k := by
  unfold refLogW
  pointwise
  simp only [refExp_at]
  rfl

theorem refDensity_at : (refDensity z mu lv lw (ix3 k n e) : EReal)
    = (((norm : EReal) - ((1 / 2 : ℝ) : EReal) * lv (ix2 k e))
        - (((1 / 2 : ℝ) : EReal) * Ideal.exp (-(lv (ix2 k e)))) * Ideal.pow (z (ix2 n e) - mu (ix2 k e)) ((2 : ℝ) : EReal)) + lw (ix3 k 0 0) := by
  unfold refDensity
  pointwise
  rw [← norm_reference, ← word_half, ← word_two]
  rfl

theorem refMost_at : (refMost q (ix2 n e) : EReal) = most (fun k : Fin 16 => (q (ix3 k n e) : EReal)) := by
  unfold refMost
  pointwise
  rw [word_bot]
  rfl

theorem refShift_at : (refShift t (ix2 n e) : EReal)
    = if max (t (ix2 n e) : EReal) (-(t (ix2 n e) : EReal)) < ⊤ then (t (ix2 n e) : EReal) else 0 := by
  unfold refShift
  pointwise
  rw [word_top]
  have h0 : id (constant (F := Ideal) S_ .f32 0x00000000#32) ix0 = (0 : EReal) := Ideal.ofBits_zero_f32
  have ha : FloatOps.absf (t (ix2 n e)) = max (t (ix2 n e) : EReal) (-(t (ix2 n e) : EReal)) := rfl
  rw [h0, ha]

theorem refLse_at : (refLse q s (ix2 n e) : EReal) = Ideal.log (∑ k : Fin 16, Ideal.exp (q (ix3 k n e) - s (ix2 n e))) + s (ix2 n e) := by
  unfold refLse
  pointwise

/-- The reference's result at a point and a column. -/
theorem refOut_at : (refOut z mu lv w (ix2 n e) : EReal)
    = referenceAt (ι := Fin 16) norm (z (ix2 n e)) (fun k => mu (ix2 k e)) (fun k => lv (ix2 k e)) (fun k => w (ix3 k 0 0)) := by
  have hq : (fun k : Fin 16 => (refDensity z mu lv (refLogW w) (ix3 k n e) : EReal))
      = density norm (z (ix2 n e)) (fun k => mu (ix2 k e)) (fun k => lv (ix2 k e)) (fun k => w (ix3 k 0 0)) := funext fun k => by
    rw [refDensity_at, refLogW_at]; rfl
  rw [refOut, refLse_at, refShift_at, refMost_at, hq]
  exact congrArg (fun f : Fin 16 → EReal => Ideal.log (∑ k, Ideal.exp (f k - _)) + _) hq

end Cert.Proof.Value
-- ==== Proof.Value.lean ====
/-
  The two programs' results at one index, as the mathematics of `LogSumExp` names them, and their equation where the
  points, the means and the log-variances are finite.
-/
module

public import proofs.«01_k».proof.Proof.Run
public import proofs.«01_k».proof.Proof.LogSumExp
public import proofs.«01_k».proof.Proof.Words
public import proofs.«01_k».proof.Proof.RefValue
public import proofs.«01_k».proof.Proof.Gen.Pre_points_finite
public import Idealize.ShloMosaic.Lib.Pointwise
public import Idealize.ShloMosaic.Lib.ReduceAll
public import Idealize.ShloMosaic.PureOps.Ideal.Laws

@[expose] public section

noncomputable section

namespace Cert.Proof.Value

open Idealize.ShloMosaic Cert.Proof.LogSumExp

/-! ## The kernel -/

section Kernel

open Cert.KernelIdeal Cert.KernelIdeal.Gen Cert.Proof.Mix

variable (z : S16384x64.Idx → EReal) (mu lv : S16x64.Idx → EReal) (w : S16x1x1.Idx → EReal)

/-- The sixteen terms added in order are the sum over the components. -/
theorem termSum_eq (a b g : ℕ → EReal) (x : EReal) (n : ℕ) :
    termSum (F := Ideal) a b g x n = ∑ k ∈ Finset.range (n + 1), term (F := Ideal) a b g x k := by
  induction n with
  | zero => rw [Finset.sum_range_one]; rfl
  | succ n ih => rw [Finset.sum_range_succ, ← ih]; rfl

/-- The first table at a component and a column. -/
theorem first_at (k : Fin 16) (e : Fin 64) :
    (k0_pay5 (F := Ideal) (shapeCast S1x16 w shapeCasts_S16x1x1_S1x16) lv mu : S16x64.Idx → EReal) (ix2 k e)
      = base (fun k => w (ix3 k 0 0)) (fun k => lv (ix2 k e)) k - most (base (fun k => w (ix3 k 0 0)) (fun k => lv (ix2 k e)))
        + quad (fun k => lv (ix2 k e)) k * mu (ix2 k e) * mu (ix2 k e) := by
  pointwise [k0_pay5, k0_pay4, k0_pay3, k0_pay2]
  unfold quad most base logW most
  simp only [word_bot, word_half, word_neg_half]
  rfl

/-- The second table. -/
theorem second_at (k : Fin 16) (e : Fin 64) :
    (k0_pay6 (F := Ideal) lv mu : S16x64.Idx → EReal) (ix2 k e)
      = ((-2 : ℝ) : EReal) * quad (fun k => lv (ix2 k e)) k * mu (ix2 k e) := by
  pointwise [k0_pay6, k0_pay2]
  unfold quad
  simp only [word_neg_two, word_neg_half]

/-- The third table. -/
theorem third_at (k : Fin 16) (e : Fin 64) :
    (k0_pay2 (F := Ideal) lv : S16x64.Idx → EReal) (ix2 k e) = quad (fun k => lv (ix2 k e)) k := by
  pointwise [k0_pay2]
  unfold quad
  simp only [word_neg_half]

/-- The row of offsets. -/
theorem offset_at (e : Fin 64) :
    (k0_pay1 (F := Ideal) (k0_pay4 (F := Ideal) (shapeCast S1x16 w shapeCasts_S16x1x1_S1x16) lv) : S1x64.Idx → EReal) (ix2 0 e)
      = most (base (fun k => w (ix3 k 0 0)) (fun k => lv (ix2 k e))) + (norm : EReal) := by
  pointwise [k0_pay1, k0_pay4, k0_pay3]
  rw [← norm_kernel]
  unfold most base logW most
  simp only [word_bot, word_half]
  rfl

/-- The kernel's result at a point and a column. -/
theorem kernel_at (n : Fin 16384) (e : Fin 64) :
    (outVal (F := Ideal) z mu lv w : S16384x64.Idx → EReal) (ix2 n e)
      = kernelAt (ι := Fin 16) norm (z (ix2 n e)) (fun k => mu (ix2 k e)) (fun k => lv (ix2 k e)) (fun k => w (ix3 k 0 0)) := by
  pointwise [outVal, gOut]
  have h1 : at1 (n.val * 64 + e.val) = ix2 0 e := by
    unfold at1; congr 1; apply Fin.ext; show (n.val * 64 + e.val) % 64 = e.val; omega
  have h2 : ∀ k : Fin 16, at2 k.val (n.val * 64 + e.val) = ix2 k e := fun k => by
    unfold at2; congr 1 <;> apply Fin.ext
    · show k.val % 16 = k.val; omega
    · show (n.val * 64 + e.val) % 64 = e.val; omega
  unfold outAt lane
  rw [termSum_eq, Finset.sum_range, h1, offset_at]
  unfold kernelAt lse
  refine congrArg (fun s => _ + Ideal.log s) (Finset.sum_congr rfl fun k _ => ?_)
  unfold term expo
  simp only [h2, second_at, third_at]
  exact congrArg (fun t : EReal => Ideal.exp ((t + _) + _)) (first_at mu lv w k e)

end Kernel

/-! ## The equation -/

/-- A number whose size is below +∞ is a real. -/
theorem real_of_abs_lt {x : EReal} (h : max x (-x) < ⊤) : x ≠ ⊤ ∧ x ≠ ⊥ :=
  ⟨fun e => by rw [e] at h; simp at h, fun e => by rw [e] at h; simp at h⟩

section Finite

open Cert.Pre_points_finite Cert.Pre_points_finite.Gen

/-- One array's part of the precondition: every element is a real. -/
theorem finite_of_all {s : Shape} {axes : List (Fin s.rank)} (x : FVec Ideal s .f32) (hb : S_.BroadcastsInDim s (![] : Fin 0 → Fin s.rank))
    (hr : s.ReducesTo axes S_) (hu : 0 < S_.numel)
    (h : Host.reduce IntOp.andi (cmpf .olt (Host.absf x) (broadcastInDim s ![] hb (constant (F := Ideal) S_ .f32 0x7F800000#32)))
      (constantI S_ 1 1#1) hr hu ix0 = 1#1) (i : s.Idx) : (x i : EReal) ≠ ⊤ ∧ (x i : EReal) ≠ ⊥ := by
  haveI : Subsingleton S_.Idx := ⟨fun a b => funext fun k => k.elim0⟩
  have e := Host.reduce_andi_all _ _ hr hu ix0 h i
  have e' : BitVec.ofBool (decide (max (x i : EReal) (-(x i : EReal)) < Ideal.ofBits .f32 0x7F800000#32)) = 1#1 := e
  rw [word_top] at e'
  refine real_of_abs_lt ?_
  by_contra hn
  rw [decide_eq_false hn] at e'
  exact absurd e' (by decide)

/-- What the precondition says: the points, the means and the log-variances are reals. -/
theorem finite_of_pre (z : FVec Ideal S16384x64 .f32) (mu lv : FVec Ideal S16x64 .f32) (w : FVec Ideal S16x1x1 .f32)
    (h : Cert.Pre_points_finite.fn (F := Ideal) z mu lv w = fun _ => 1#1) :
    (∀ i, (z i : EReal) ≠ ⊤ ∧ (z i : EReal) ≠ ⊥) ∧ (∀ i, (mu i : EReal) ≠ ⊤ ∧ (mu i : EReal) ≠ ⊥)
      ∧ ∀ i, (lv i : EReal) ≠ ⊤ ∧ (lv i : EReal) ≠ ⊥ := by
  have h0 := congrFun h ix0
  obtain ⟨h1, h2⟩ := IntOp.andi_eq_one.1 (h0 : IntOp.andi _ _ = 1#1)
  obtain ⟨h3, h4⟩ := IntOp.andi_eq_one.1 (h1 : IntOp.andi _ _ = 1#1)
  exact ⟨finite_of_all z _ _ _ h3, finite_of_all mu _ _ _ h4, finite_of_all lv _ _ _ h2⟩

end Finite

/-- Where the latent value, the means and the log-variances are finite the kernel's value is the reference's. -/
theorem value_eq (x : EReal) (mu lv w : Fin 16 → EReal) (hx : x ≠ ⊤ ∧ x ≠ ⊥) (hmu : ∀ k, mu k ≠ ⊤ ∧ mu k ≠ ⊥)
    (hlv : ∀ k, lv k ≠ ⊤ ∧ lv k ≠ ⊥) : kernelAt (norm : EReal) x mu lv w = referenceAt (norm : EReal) x mu lv w := by
  lift x to ℝ using hx
  obtain ⟨mu', rfl⟩ : ∃ f : Fin 16 → ℝ, mu = fun k => (f k : EReal) :=
    ⟨fun k => (mu k).toReal, funext fun k => (EReal.coe_toReal (hmu k).1 (hmu k).2).symm⟩
  obtain ⟨lv', rfl⟩ : ∃ f : Fin 16 → ℝ, lv = fun k => (f k : EReal) :=
    ⟨fun k => (lv k).toReal, funext fun k => (EReal.coe_toReal (hlv k).1 (hlv k).2).symm⟩
  exact kernelAt_eq norm x mu' lv' w

end Cert.Proof.Value
-- ==== Proof.Algebraic.lean ====
/-
  The value claim: over the extended reals, where the points, the means and the log-variances are finite, the kernel and
  the reference end with the same result.
-/
module

public import proofs.«01_k».proof.Defs
public import proofs.«01_k».proof.Proof.Value

@[expose] public section

noncomputable section

namespace Cert.Proof.Value

open Idealize.ShloMosaic Cert.Proof.LogSumExp

/-- The two results as arrays. -/
theorem outVal_eq (z : FVec Ideal Cert.Pre_points_finite.S16384x64 .f32) (mu lv : FVec Ideal Cert.Pre_points_finite.S16x64 .f32)
    (w : FVec Ideal Cert.Pre_points_finite.S16x1x1 .f32)
    (h : Cert.Pre_points_finite.fn (F := Ideal) z mu lv w = fun _ => 1#1) :
    Cert.Proof.Mix.outVal (F := Ideal) z mu lv w = refOut z mu lv w := by
  obtain ⟨hz, hmu, hlv⟩ := finite_of_pre z mu lv w h
  funext i
  obtain ⟨n, e, rfl⟩ : ∃ (n : Fin 16384) (e : Fin 64), i = ix2 n e := ⟨i 0, i 1, eq_ix2 i⟩
  exact (kernel_at z mu lv w n e).trans
    ((value_eq _ _ _ _ (hz _) (fun k => hmu _) (fun k => hlv _)).trans (refOut_at z mu lv w n e).symm)

/-- The value claim. -/
theorem algebraic : Cert.algebraic_KernelIdeal_ReferenceIdeal_pre_points_finite := by
  intro m g m' g' hpre hagree
  refine ⟨fun c => Cert.Proof.Mix.outVal (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun _ h c => h.1 c) (Cert.Proof.Mix.run_main (F := Ideal) m g)
  · refine (θ_run Cert.ReferenceIdeal.defs _ _).mono (fun r h c => ⟨((h c).1.trans (res_eq m' c)).trans ?_, (h c).2⟩)
      (Cert.ReferenceIdeal.Value.run (F := Ideal) m' g')
    rw [(hagree c).1, (hagree c).2.1, (hagree c).2.2.1, (hagree c).2.2.2]
    exact (outVal_eq _ _ _ _ (hpre c)).symm

end Cert.Proof.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_points_finite
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

/-- Every claim of the certificate: the five frames, the named constant, the value claim. -/
theorem claim : Cert.Claim := ⟨Cert.Kernel.Gen.facts, Cert.KernelIdeal.Gen.facts, Cert.ReferenceIdeal.Gen.facts,
  Cert.Pre_points_finite.Gen.facts, Mix.frame_kernel, Mix.frame_kernelIdeal, Mix.frame_kernelIdeal_finite,
  Mix.frame_reference, Mix.frame_reference_finite, IdealRules.named_const.statement _ _ _ _ _ rfl, Value.algebraic⟩

end Cert.Proof

end
